-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "cd0" .f32 0x3C8CC36A#32 ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "cd1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "cd2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "cd3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "lg0" .f32 0xBD020AEC#32 ((Real.log (31 / 32) : ℝ) : EReal)
  ∧ IdealRules.named_const.Statement Cert.Kernel2Ideal.κ "lg1" .f32 0xBC8102B3#32 ((Real.log (63 / 64) : ℝ) : EReal)
  ∧ IdealRules.named_const.Statement Cert.Kernel2Ideal.κ "lg2" .f32 0xBC0080AC#32 ((Real.log (127 / 128) : ℝ) : EReal)
  ∧ IdealRules.named_const.Statement Cert.Kernel2Ideal.κ "lg3" .f32 0xBB80402B#32 ((Real.log (255 / 256) : ℝ) : EReal)
  ∧ IdealRules.named_const.Statement Cert.Kernel2Ideal.κ "nlg0" .f32 0x3D020AEC#32 ((-(Real.log (31 / 32)) : ℝ) : EReal)
  ∧ IdealRules.named_const.Statement Cert.Kernel2Ideal.κ "nlg1" .f32 0x3C8102B3#32 ((-(Real.log (63 / 64)) : ℝ) : EReal)
  ∧ IdealRules.named_const.Statement Cert.Kernel2Ideal.κ "nlg2" .f32 0x3C0080AC#32 ((-(Real.log (127 / 128)) : ℝ) : EReal)
  ∧ IdealRules.named_const.Statement Cert.Kernel2Ideal.κ "nlg3" .f32 0x3B80402B#32 ((-(Real.log (255 / 256)) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v139) = v0 c
          ∧ r.2.mem ((c.tc : Thread Cert.Reference2Ideal.nD Cert.Reference2Ideal.τ).loc Cert.Reference2Ideal.main_v140) = v1 c
          ∧ r.2.mem ((c.tc : Thread Cert.Reference2Ideal.nD Cert.Reference2Ideal.τ).loc Cert.Reference2Ideal.main_v141) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v22_0)) (v1 : (c : Dev Cert.Kernel3Ideal.nD) → Buf (Elt Ideal) ((c.tc : Thread Cert.Kernel3Ideal.nD Cert.Kernel3Ideal.τ).loc Cert.Kernel3Ideal.main_v22_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22_0) = v0 c
          ∧ r.2.mem ((c.tc : Thread Cert.Kernel3Ideal.nD Cert.Kernel3Ideal.τ).loc Cert.Kernel3Ideal.main_v22_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S32768x3072 : Shape := ⟨2, ![32768, 3072]⟩
abbrev S32768x768 : Shape := ⟨2, ![32768, 768]⟩
abbrev S1x8 : Shape := ⟨2, ![1, 8]⟩
abbrev S1x64 : Shape := ⟨2, ![1, 64]⟩
abbrev S8 : Shape := ⟨1, ![8]⟩
abbrev S64 : Shape := ⟨1, ![64]⟩
abbrev S2x64 : Shape := ⟨2, ![2, 64]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S512x512 : Shape := ⟨2, ![512, 512]⟩
abbrev S512x1024 : Shape := ⟨2, ![512, 1024]⟩
abbrev S512x128 : Shape := ⟨2, ![512, 128]⟩
abbrev S128x128 : Shape := ⟨2, ![128, 128]⟩
abbrev S4x128x256 : Shape := ⟨3, ![4, 128, 256]⟩
abbrev S128x256 : Shape := ⟨2, ![128, 256]⟩
abbrev S640x128 : Shape := ⟨2, ![640, 128]⟩
abbrev S256x512 : Shape := ⟨2, ![256, 512]⟩
abbrev S1x512 : Shape := ⟨2, ![1, 512]⟩
abbrev S16x256 : Shape := ⟨2, ![16, 256]⟩
abbrev S1x128x256 : Shape := ⟨3, ![1, 128, 256]⟩
abbrev S256x256 : Shape := ⟨2, ![256, 256]⟩
abbrev S1 : Shape := ⟨1, ![1]⟩
abbrev S128x1 : Shape := ⟨2, ![128, 1]⟩
abbrev S256x128 : Shape := ⟨2, ![256, 128]⟩
abbrev S512 : Shape := ⟨1, ![512]⟩
abbrev S64x128 : Shape := ⟨2, ![64, 128]⟩
abbrev S64x256 : Shape := ⟨2, ![64, 256]⟩
abbrev S80x256 : Shape := ⟨2, ![80, 256]⟩
abbrev S80x512 : Shape := ⟨2, ![80, 512]⟩
abbrev S64x512 : Shape := ⟨2, ![64, 512]⟩

abbrev nBuf : Space → Nat
  | .hbm => 18
  | .vmem => 25
  | .smem => 1
  | _ => 0

abbrev bufTy : (tb : Table) → Fin (tcTables nBuf tb) → BufTy
  | .hbm, ⟨0, _⟩ => ⟨S32768x3072, .bf16⟩
  | .hbm, ⟨1, _⟩ => ⟨S32768x768, .bf16⟩
  | .hbm, ⟨2, _⟩ => ⟨S1x8, .f32⟩
  | .hbm, ⟨3, _⟩ => ⟨S1x64, .f32⟩
  | .hbm, ⟨4, _⟩ => ⟨S1x64, .f32⟩
  | .hbm, ⟨5, _⟩ => ⟨S8, .f32⟩
  | .hbm, ⟨6, _⟩ => ⟨S64, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S64, .f32⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S32768x1024, .bf16⟩
  | .hbm, ⟨17, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .bf16⟩
  | .local _ .vmem, ⟨18, _⟩ => ⟨S1x128, .f32⟩
  | .local _ .vmem, ⟨19, _⟩ => ⟨S1x128, .f32⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S4x128x256, .f32⟩
  | .local _ .smem, ⟨0, _⟩ => ⟨S8, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c4_i32_0 : BitVec 32 := 4#32
  let c0_i32_1 : BitVec 32 := 0#32
  ![v4.toNat, c4_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c5_i32 : BitVec 32 := 5#32
  let c0_i32_0 : BitVec 32 := 0#32
  ![v4.toNat, c5_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "cd0" => some ((78396524673059168935135267129777069613296345595630703725521524943634535507969383755197623356051954795321353669855221370862828507625207993636119503453243704432660074542086103959358842624471041 / 4562440617622195218641171605700291324893228507248559930579192517899275167208677386505912811317371399778642309573594407310688704721375437998252661319722214188251994674360264950082874192246603776 : ℝ) : EReal)
  | "cd1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "cd2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "cd3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S32768x3072 : Shape := ⟨2, ![32768, 3072]⟩
abbrev S32768x768 : Shape := ⟨2, ![32768, 768]⟩
abbrev S1x8 : Shape := ⟨2, ![1, 8]⟩
abbrev S1x64 : Shape := ⟨2, ![1, 64]⟩
abbrev S32768x512 : Shape := ⟨2, ![32768, 512]⟩
abbrev S32768x1024 : Shape := ⟨2, ![32768, 1024]⟩
abbrev S4 : Shape := ⟨1, ![4]⟩
abbrev S_ : Shape := ⟨0, ![]⟩
abbrev S128 : Shape := ⟨1, ![128]⟩
abbrev S1x4 : Shape := ⟨2, ![1, 4]⟩
abbrev S128x1 : Shape := ⟨2, ![128, 1]⟩
abbrev S128x4 : Shape := ⟨2, ![128, 4]⟩
abbrev S1x1x128x4x1 : Shape := ⟨5, ![1, 1, 128, 4, 1]⟩
abbrev S4x64x128x4x128 : Shape := ⟨5, ![4, 64, 128, 4, 128]⟩
abbrev S4x64x128x4x256 : Shape := ⟨5, ![4, 64, 128, 4, 256]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x64x4x128x128 : Shape := ⟨5, ![4, 64, 4, 128, 128]⟩
abbrev S1x1x4x128x128 : Shape := ⟨5, ![1, 1, 4, 128, 128]⟩
abbrev S4x64x4x256x128 : Shape := ⟨5, ![4, 64, 4, 256, 128]⟩
abbrev S4x64x4x128x256 : Shape := ⟨5, ![4, 64, 4, 128, 256]⟩
abbrev S64 : Shape := ⟨1, ![64]⟩
abbrev S64x1 : Shape := ⟨2, ![64, 1]⟩
abbrev S64x64 : Shape := ⟨2, ![64, 64]⟩
abbrev S1x64x64 : Shape := ⟨3, ![1, 64, 64]⟩
abbrev S4x64x64 : Shape := ⟨3, ![4, 64, 64]⟩
abbrev S4x4x128x256x64 : Shape := ⟨5, ![4, 4, 128, 256, 64]⟩
abbrev S4x64x128x4 : Shape := ⟨4, ![4, 64, 128, 4]⟩
abbrev S4x64x128x4x1 : Shape := ⟨5, ![4, 64, 128, 4, 1]⟩

abbrev nBuf : Space → Nat
  | .hbm => 164
  | .vmem => 0
  | .smem => 0
  | _ => 0

abbrev hbmTy0_0 (i : Nat) : BufTy := match i % 128 with
  | 0 => ⟨S32768x3072, .bf16⟩
  | 1 => ⟨S32768x768, .bf16⟩
  | 2 => ⟨S1x8, .f32⟩
  | 3 => ⟨S1x64, .f32⟩
  | 4 => ⟨S1x64, .f32⟩
  | 5 => ⟨S32768x3072, .f32⟩
  | 6 => ⟨S32768x512, .f32⟩
  | 7 => ⟨S32768x512, .f32⟩
  | 8 => ⟨S32768x1024, .f32⟩
  | 9 => ⟨S32768x1024, .f32⟩
  | 10 => ⟨S4, .i32⟩
  | 11 => ⟨S4, .f32⟩
  | 12 => ⟨S_, .f32⟩
  | 13 => ⟨S4, .f32⟩
  | 14 => ⟨S4, .f32⟩
  | 15 => ⟨S_, .f32⟩
  | 16 => ⟨S4, .f32⟩
  | 17 => ⟨S4, .f32⟩
  | 18 => ⟨S4, .f32⟩
  | 19 => ⟨S4, .f32⟩
  | 20 => ⟨S128, .i32⟩
  | 21 => ⟨S128, .f32⟩
  | 22 => ⟨S1x4, .f32⟩
  | 23 => ⟨S_, .f32⟩
  | 24 => ⟨S128, .f32⟩
  | 25 => ⟨S128, .f32⟩
  | 26 => ⟨S128x1, .f32⟩
  | 27 => ⟨S128x4, .f32⟩
  | 28 => ⟨S128x4, .f32⟩
  | 29 => ⟨S128x4, .f32⟩
  | 30 => ⟨S128x4, .f32⟩
  | 31 => ⟨S1x1x128x4x1, .f32⟩
  | 32 => ⟨S4x64x128x4x128, .f32⟩
  | 33 => ⟨S4x64x128x4x128, .f32⟩
  | 34 => ⟨S4x64x128x4x128, .f32⟩
  | 35 => ⟨S4x64x128x4x128, .f32⟩
  | 36 => ⟨S4x64x128x4x128, .f32⟩
  | 37 => ⟨S4x64x128x4x128, .f32⟩
  | 38 => ⟨S4x64x128x4x256, .f32⟩
  | 39 => ⟨S4, .i32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S4, .f32⟩
  | 49 => ⟨S128, .i32⟩
  | 50 => ⟨S128, .f32⟩
  | 51 => ⟨S128x1, .f32⟩
  | 52 => ⟨S1x128, .f32⟩
  | 53 => ⟨S128x128, .f32⟩
  | 54 => ⟨S128x128, .f32⟩
  | 55 => ⟨S128x128, .f32⟩
  | 56 => ⟨S4x1x1, .f32⟩
  | 57 => ⟨S_, .f32⟩
  | 58 => ⟨S128x128, .f32⟩
  | 59 => ⟨S128x128, .f32⟩
  | 60 => ⟨S1x128x128, .f32⟩
  | 61 => ⟨S4x128x128, .f32⟩
  | 62 => ⟨S4x128x128, .f32⟩
  | 63 => ⟨S4x128x128, .f32⟩
  | 64 => ⟨S4x128x128, .f32⟩
  | 65 => ⟨S_, .f32⟩
  | 66 => ⟨S128x128, .f32⟩
  | 67 => ⟨S128x128, .i1⟩
  | 68 => ⟨S4x128x128, .i1⟩
  | 69 => ⟨S_, .f32⟩
  | 70 => ⟨S4x128x128, .f32⟩
  | 71 => ⟨S4x128x128, .f32⟩
  | 72 => ⟨S4x64x4x128x128, .f32⟩
  | 73 => ⟨S1x1x4x128x128, .f32⟩
  | 74 => ⟨S4x64x4x128x128, .f32⟩
  | 75 => ⟨S4x64x4x128x128, .f32⟩
  | 76 => ⟨S4x64x4x256x128, .f32⟩
  | 77 => ⟨S4x64x128x4x256, .f32⟩
  | 78 => ⟨S1x4, .f32⟩
  | 79 => ⟨S_, .f32⟩
  | 80 => ⟨S128, .f32⟩
  | 81 => ⟨S128, .f32⟩
  | 82 => ⟨S128x1, .f32⟩
  | 83 => ⟨S128x4, .f32⟩
  | 84 => ⟨S128x4, .f32⟩
  | 85 => ⟨S128x4, .f32⟩
  | 86 => ⟨S128x4, .f32⟩
  | 87 => ⟨S1x1x128x4x1, .f32⟩
  | 88 => ⟨S4x64x128x4x128, .f32⟩
  | 89 => ⟨S4x64x128x4x128, .f32⟩
  | 90 => ⟨S4x64x4x128x256, .f32⟩
  | 91 => ⟨S64, .i32⟩
  | 92 => ⟨S64, .f32⟩
  | 93 => ⟨S64x1, .f32⟩
  | 94 => ⟨S1x64, .f32⟩
  | 95 => ⟨S64x64, .f32⟩
  | 96 => ⟨S64x64, .f32⟩
  | 97 => ⟨S64x64, .f32⟩
  | 98 => ⟨S_, .f32⟩
  | 99 => ⟨S64x64, .f32⟩
  | 100 => ⟨S64x64, .f32⟩
  | 101 => ⟨S4x1x1, .f32⟩
  | 102 => ⟨S_, .f32⟩
  | 103 => ⟨S64x64, .f32⟩
  | 104 => ⟨S64x64, .f32⟩
  | 105 => ⟨S_, .f32⟩
  | 106 => ⟨S64x64, .f32⟩
  | 107 => ⟨S64x64, .f32⟩
  | 108 => ⟨S1x64x64, .f32⟩
  | 109 => ⟨S4x64x64, .f32⟩
  | 110 => ⟨S4x64x64, .f32⟩
  | 111 => ⟨S4x64x64, .f32⟩
  | 112 => ⟨S4x64x64, .f32⟩
  | 113 => ⟨S_, .f32⟩
  | 114 => ⟨S64x64, .f32⟩
  | 115 => ⟨S64x64, .i1⟩
  | 116 => ⟨S4x64x64, .i1⟩
  | 117 => ⟨S_, .f32⟩
  | 118 => ⟨S4x64x64, .f32⟩
  | 119 => ⟨S4x64x64, .f32⟩
  | 120 => ⟨S4x4x128x256x64, .f32⟩
  | 121 => ⟨S4x64x4x128x256, .f32⟩
  | 122 => ⟨S1x4, .f32⟩
  | 123 => ⟨S_, .f32⟩
  | 124 => ⟨S128, .f32⟩
  | 125 => ⟨S128, .f32⟩
  | 126 => ⟨S128x1, .f32⟩
  | 127 => ⟨S128x4, .f32⟩
  | _ => ⟨S32768x3072, .bf16⟩

abbrev hbmTy0_1 (i : Nat) : BufTy := match i % 128 with
  | 0 => ⟨S128x4, .f32⟩
  | 1 => ⟨S128x4, .f32⟩
  | 2 => ⟨S128x4, .f32⟩
  | 3 => ⟨S1x1x128x4x1, .f32⟩
  | 4 => ⟨S4x64x128x4x128, .f32⟩
  | 5 => ⟨S4x64x128x4x128, .f32⟩
  | 6 => ⟨S4x64x4x256x128, .f32⟩
  | 7 => ⟨S4x64x128x4x256, .f32⟩
  | 8 => ⟨S4x64x128x4x256, .f32⟩
  | 9 => ⟨S_, .f32⟩
  | 10 => ⟨S4x64x128x4, .f32⟩
  | 11 => ⟨S4x64x128x4x1, .f32⟩
  | 12 => ⟨S_, .f32⟩
  | 13 => ⟨S4x64x128x4x1, .f32⟩
  | 14 => ⟨S4x64x128x4x1, .f32⟩
  | 15 => ⟨S4x64x128x4x256, .f32⟩
  | 16 => ⟨S4x64x128x4x256, .f32⟩
  | 17 => ⟨S4x64x128x4x256, .f32⟩
  | 18 => ⟨S_, .f32⟩
  | 19 => ⟨S4x64x128x4, .f32⟩
  | 20 => ⟨S4x64x128x4x1, .f32⟩
  | 21 => ⟨S_, .f32⟩
  | 22 => ⟨S4x64x128x4x1, .f32⟩
  | 23 => ⟨S4x64x128x4x1, .f32⟩
  | 24 => ⟨S4x64x128x4x256, .f32⟩
  | 25 => ⟨S4x64x128x4x256, .f32⟩
  | 26 => ⟨S_, .f32⟩
  | 27 => ⟨S4x64x128x4x1, .f32⟩
  | 28 => ⟨S4x64x128x4x1, .f32⟩
  | 29 => ⟨S4x64x128x4x1, .f32⟩
  | 30 => ⟨S4x64x128x4x256, .f32⟩
  | 31 => ⟨S4x64x128x4x256, .f32⟩
  | 32 => ⟨S4x64x128x4x256, .f32⟩
  | 33 => ⟨S4x64x128x4x256, .f32⟩
  | 34 => ⟨S32768x1024, .f32⟩
  | 35 => ⟨S32768x1024, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_8 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_11 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_12 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_cst_13 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_cst_14 : Ref sig .tc := ⟨.hbm, 137, rfl⟩
abbrev main_v117 : Ref sig .tc := ⟨.hbm, 138, rfl⟩
abbrev main_v118 : Ref sig .tc := ⟨.hbm, 139, rfl⟩
abbrev main_cst_15 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_16 : Ref sig .tc := ⟨.hbm, 146, rfl⟩
abbrev main_v124 : Ref sig .tc := ⟨.hbm, 147, rfl⟩
abbrev main_v125 : Ref sig .tc := ⟨.hbm, 148, rfl⟩
abbrev main_cst_17 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_cst_18 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩

abbrev nD : Nat := 1
abbrev τ : Topo := Topo.v7x

variable {F : FTy → Type} [FloatOps F]
-- ==== Kernel2.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x4x256 : Shape := ⟨3, ![1, 4, 256]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S128 : Shape := ⟨1, ![128]⟩
abbrev S128x1 : Shape := ⟨2, ![128, 1]⟩
abbrev S128x64 : Shape := ⟨2, ![128, 64]⟩
abbrev S64x1x64 : Shape := ⟨3, ![64, 1, 64]⟩
abbrev S1x128x64 : Shape := ⟨3, ![1, 128, 64]⟩
abbrev S64x128x64 : Shape := ⟨3, ![64, 128, 64]⟩
abbrev S8192x64 : Shape := ⟨2, ![8192, 64]⟩
abbrev S8192x128 : Shape := ⟨2, ![8192, 128]⟩
abbrev S32768x1024 : Shape := ⟨2, ![32768, 1024]⟩
abbrev S1024 : Shape := ⟨1, ![1024]⟩
abbrev S1024x5888 : Shape := ⟨2, ![1024, 5888]⟩
abbrev S4x256 : Shape := ⟨2, ![4, 256]⟩
abbrev S32768x3072 : Shape := ⟨2, ![32768, 3072]⟩
abbrev S32768x768 : Shape := ⟨2, ![32768, 768]⟩
abbrev S32768x2048 : Shape := ⟨2, ![32768, 2048]⟩
abbrev S512x1024 : Shape := ⟨2, ![512, 1024]⟩
abbrev S512x128 : Shape := ⟨2, ![512, 128]⟩
abbrev S512x3072 : Shape := ⟨2, ![512, 3072]⟩
abbrev S512x768 : Shape := ⟨2, ![512, 768]⟩
abbrev S512x2048 : Shape := ⟨2, ![512, 2048]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1x512 : Shape := ⟨2, ![1, 512]⟩
abbrev S1024x256 : Shape := ⟨2, ![1024, 256]⟩
abbrev S256x256 : Shape := ⟨2, ![256, 256]⟩

abbrev nBuf : Space → Nat
  | .hbm => 66
  | .vmem => 15
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x5888, .f32⟩
  | .hbm, ⟨3, _⟩ => ⟨S1x4x256, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .f32⟩
  | .hbm, ⟨17, _⟩ => ⟨S64x1, .f32⟩
  | .hbm, ⟨18, _⟩ => ⟨S1x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S128, .i32⟩
  | .hbm, ⟨23, _⟩ => ⟨S128, .f32⟩
  | .hbm, ⟨24, _⟩ => ⟨S128x1, .f32⟩
  | .hbm, ⟨25, _⟩ => ⟨S1x64, .f32⟩
  | .hbm, ⟨26, _⟩ => ⟨S128x64, .f32⟩
  | .hbm, ⟨27, _⟩ => ⟨S128x64, .f32⟩
  | .hbm, ⟨28, _⟩ => ⟨S128x64, .f32⟩
  | .hbm, ⟨29, _⟩ => ⟨S64x64, .f32⟩
  | .hbm, ⟨30, _⟩ => ⟨S64x1x64, .f32⟩
  | .hbm, ⟨31, _⟩ => ⟨S64x64, .f32⟩
  | .hbm, ⟨32, _⟩ => ⟨S64x1x64, .f32⟩
  | .hbm, ⟨33, _⟩ => ⟨S128x64, .f32⟩
  | .hbm, ⟨34, _⟩ => ⟨S1x128x64, .f32⟩
  | .hbm, ⟨35, _⟩ => ⟨S128x64, .f32⟩
  | .hbm, ⟨36, _⟩ => ⟨S1x128x64, .f32⟩
  | .hbm, ⟨37, _⟩ => ⟨S64x128x64, .f32⟩
  | .hbm, ⟨38, _⟩ => ⟨S64x128x64, .f32⟩
  | .hbm, ⟨39, _⟩ => ⟨S64x128x64, .f32⟩
  | .hbm, ⟨40, _⟩ => ⟨S64x128x64, .f32⟩
  | .hbm, ⟨41, _⟩ => ⟨S64x128x64, .f32⟩
  | .hbm, ⟨42, _⟩ => ⟨S64x128x64, .f32⟩
  | .hbm, ⟨43, _⟩ => ⟨S64x128x64, .f32⟩
  | .hbm, ⟨44, _⟩ => ⟨S8192x64, .f32⟩
  | .hbm, ⟨45, _⟩ => ⟨S64x128x64, .f32⟩
  | .hbm, ⟨46, _⟩ => ⟨S64x128x64, .f32⟩
  | .hbm, ⟨47, _⟩ => ⟨S64x128x64, .f32⟩
  | .hbm, ⟨48, _⟩ => ⟨S64x128x64, .f32⟩
  | .hbm, ⟨49, _⟩ => ⟨S64x128x64, .f32⟩
  | .hbm, ⟨50, _⟩ => ⟨S64x128x64, .f32⟩
  | .hbm, ⟨51, _⟩ => ⟨S64x128x64, .f32⟩
  | .hbm, ⟨52, _⟩ => ⟨S8192x64, .f32⟩
  | .hbm, ⟨53, _⟩ => ⟨S8192x128, .f32⟩
  | .hbm, ⟨54, _⟩ => ⟨S8192x64, .f32⟩
  | .hbm, ⟨55, _⟩ => ⟨S8192x128, .f32⟩
  | .hbm, ⟨56, _⟩ => ⟨S32768x1024, .f32⟩
  | .hbm, ⟨57, _⟩ => ⟨S1024, .f32⟩
  | .hbm, ⟨58, _⟩ => ⟨S1x1024, .f32⟩
  | .hbm, ⟨59, _⟩ => ⟨S1024x5888, .f32⟩
  | .hbm, ⟨60, _⟩ => ⟨S1024x5888, .bf16⟩
  | .hbm, ⟨61, _⟩ => ⟨S4x256, .f32⟩
  | .hbm, ⟨62, _⟩ => ⟨S1x1024, .f32⟩
  | .hbm, ⟨63, _⟩ => ⟨S32768x3072, .bf16⟩
  | .hbm, ⟨64, _⟩ => ⟨S32768x768, .bf16⟩
  | .hbm, ⟨65, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x3072, .bf16⟩
  | .local _ .vmem, ⟨10, _⟩ => ⟨S512x3072, .bf16⟩
  | .local _ .vmem, ⟨11, _⟩ => ⟨S512x768, .bf16⟩
  | .local _ .vmem, ⟨12, _⟩ => ⟨S512x768, .bf16⟩
  | .local _ .vmem, ⟨13, _⟩ => ⟨S512x2048, .bf16⟩
  | .local _ .vmem, ⟨14, _⟩ => ⟨S512x2048, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56_0 : Ref sig .tc := ⟨.hbm, 63, rfl⟩
abbrev main_v56_1 : Ref sig .tc := ⟨.hbm, 64, rfl⟩
abbrev main_v56_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "nlg0" => some ((-(Real.log (31 / 32)) : ℝ) : EReal)
  | "nlg1" => some ((-(Real.log (63 / 64)) : ℝ) : EReal)
  | "nlg2" => some ((-(Real.log (127 / 128)) : ℝ) : EReal)
  | "nlg3" => some ((-(Real.log (255 / 256)) : ℝ) : EReal)
  | _ => none
-- ==== Reference2Ideal.lean ====
abbrev S4x8192x1024 : Shape := ⟨3, ![4, 8192, 1024]⟩
abbrev S1x1024 : Shape := ⟨2, ![1, 1024]⟩
abbrev S1x1024x5888 : Shape := ⟨3, ![1, 1024, 5888]⟩
abbrev S1x4x256 : Shape := ⟨3, ![1, 4, 256]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x5888 : Shape := ⟨2, ![1024, 5888]⟩
abbrev S4x8192x5888 : Shape := ⟨3, ![4, 8192, 5888]⟩
abbrev S4x8192x512 : Shape := ⟨3, ![4, 8192, 512]⟩
abbrev S4x8192x128 : Shape := ⟨3, ![4, 8192, 128]⟩
abbrev S8192 : Shape := ⟨1, ![8192]⟩
abbrev S4 : Shape := ⟨1, ![4]⟩
abbrev S1x4 : Shape := ⟨2, ![1, 4]⟩
abbrev S8192x1 : Shape := ⟨2, ![8192, 1]⟩
abbrev S8192x4 : Shape := ⟨2, ![8192, 4]⟩
abbrev S1x8192x4x1 : Shape := ⟨4, ![1, 8192, 4, 1]⟩
abbrev S4x8192x4x128 : Shape := ⟨4, ![4, 8192, 4, 128]⟩
abbrev S64 : Shape := ⟨1, ![64]⟩
abbrev S1x64 : Shape := ⟨2, ![1, 64]⟩
abbrev S8192x64 : Shape := ⟨2, ![8192, 64]⟩
abbrev S1x8192x1x64 : Shape := ⟨4, ![1, 8192, 1, 64]⟩
abbrev S4x8192x4x64 : Shape := ⟨4, ![4, 8192, 4, 64]⟩
abbrev S4x256 : Shape := ⟨2, ![4, 256]⟩
abbrev S4x8192x3072 : Shape := ⟨3, ![4, 8192, 3072]⟩
abbrev S32768x3072 : Shape := ⟨2, ![32768, 3072]⟩
abbrev S4x8192x768 : Shape := ⟨3, ![4, 8192, 768]⟩
abbrev S32768x768 : Shape := ⟨2, ![32768, 768]⟩
abbrev S4x8192x2048 : Shape := ⟨3, ![4, 8192, 2048]⟩
abbrev S32768x2048 : Shape := ⟨2, ![32768, 2048]⟩

abbrev nBuf : Space → Nat
  | .hbm => 190
  | .vmem => 0
  | .smem => 0
  | _ => 0

abbrev hbmTy0_0 (i : Nat) : BufTy := match i % 128 with
  | 0 => ⟨S4x8192x1024, .f32⟩
  | 1 => ⟨S1x1024, .f32⟩
  | 2 => ⟨S1x1024x5888, .f32⟩
  | 3 => ⟨S1x4x256, .f32⟩
  | 4 => ⟨S4x8192x1024, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x1024, .f32⟩
  | 16 => ⟨S4x8192x1024, .f32⟩
  | 17 => ⟨S1024, .f32⟩
  | 18 => ⟨S1x1x1024, .f32⟩
  | 19 => ⟨S4x8192x1024, .f32⟩
  | 20 => ⟨S4x8192x1024, .f32⟩
  | 21 => ⟨S1024x5888, .f32⟩
  | 22 => ⟨S4x8192x5888, .f32⟩
  | 23 => ⟨S4x8192x512, .f32⟩
  | 24 => ⟨S4x8192x512, .f32⟩
  | 25 => ⟨S4x8192x1024, .f32⟩
  | 26 => ⟨S4x8192x1024, .f32⟩
  | 27 => ⟨S4x8192x512, .f32⟩
  | 28 => ⟨S4x8192x128, .f32⟩
  | 29 => ⟨S4x8192x128, .f32⟩
  | 30 => ⟨S4x8192x1024, .f32⟩
  | 31 => ⟨S4x8192x1024, .f32⟩
  | 32 => ⟨S8192, .i32⟩
  | 33 => ⟨S4, .i32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S4, .f32⟩
  | 42 => ⟨S4, .f32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S8192, .i32⟩
  | 50 => ⟨S8192, .i32⟩
  | 51 => ⟨S_, .i32⟩
  | 52 => ⟨S8192, .i32⟩
  | 53 => ⟨S8192, .i1⟩
  | 54 => ⟨S_, .i32⟩
  | 55 => ⟨S8192, .i32⟩
  | 56 => ⟨S8192, .i1⟩
  | 57 => ⟨S_, .i32⟩
  | 58 => ⟨S_, .i1⟩
  | 59 => ⟨S8192, .i1⟩
  | 60 => ⟨S8192, .i1⟩
  | 61 => ⟨S8192, .i1⟩
  | 62 => ⟨S8192, .i32⟩
  | 63 => ⟨S8192, .i32⟩
  | 64 => ⟨S8192, .i32⟩
  | 65 => ⟨S_, .i32⟩
  | 66 => ⟨S8192, .i32⟩
  | 67 => ⟨S8192, .i32⟩
  | 68 => ⟨S8192, .f32⟩
  | 69 => ⟨S1x4, .f32⟩
  | 70 => ⟨S8192x1, .f32⟩
  | 71 => ⟨S8192x4, .f32⟩
  | 72 => ⟨S8192x4, .f32⟩
  | 73 => ⟨S8192x4, .f32⟩
  | 74 => ⟨S8192x4, .f32⟩
  | 75 => ⟨S1x8192x4x1, .f32⟩
  | 76 => ⟨S4x8192x4x128, .f32⟩
  | 77 => ⟨S64, .i32⟩
  | 78 => ⟨S64, .f32⟩
  | 79 => ⟨S64, .f32⟩
  | 80 => ⟨S_, .f32⟩
  | 81 => ⟨S64, .f32⟩
  | 82 => ⟨S64, .f32⟩
  | 83 => ⟨S_, .f32⟩
  | 84 => ⟨S64, .f32⟩
  | 85 => ⟨S64, .f32⟩
  | 86 => ⟨S8192, .f32⟩
  | 87 => ⟨S8192x1, .f32⟩
  | 88 => ⟨S1x64, .f32⟩
  | 89 => ⟨S8192x64, .f32⟩
  | 90 => ⟨S8192x64, .f32⟩
  | 91 => ⟨S8192x64, .f32⟩
  | 92 => ⟨S8192x64, .f32⟩
  | 93 => ⟨S1x8192x1x64, .f32⟩
  | 94 => ⟨S8192x64, .f32⟩
  | 95 => ⟨S1x8192x1x64, .f32⟩
  | 96 => ⟨S4x8192x4x64, .f32⟩
  | 97 => ⟨S4x8192x4x64, .f32⟩
  | 98 => ⟨S4x8192x4x64, .f32⟩
  | 99 => ⟨S4x8192x4x64, .f32⟩
  | 100 => ⟨S4x8192x4x64, .f32⟩
  | 101 => ⟨S4x8192x4x64, .f32⟩
  | 102 => ⟨S4x8192x4x64, .f32⟩
  | 103 => ⟨S4x8192x4x64, .f32⟩
  | 104 => ⟨S4x8192x4x64, .f32⟩
  | 105 => ⟨S4x8192x4x64, .f32⟩
  | 106 => ⟨S4x8192x4x64, .f32⟩
  | 107 => ⟨S4x8192x4x64, .f32⟩
  | 108 => ⟨S4x8192x4x128, .f32⟩
  | 109 => ⟨S4x8192x4x128, .f32⟩
  | 110 => ⟨S4x8192x4x128, .f32⟩
  | 111 => ⟨S4x8192x4x128, .f32⟩
  | 112 => ⟨S64, .i32⟩
  | 113 => ⟨S64, .f32⟩
  | 114 => ⟨S64, .f32⟩
  | 115 => ⟨S_, .f32⟩
  | 116 => ⟨S64, .f32⟩
  | 117 => ⟨S64, .f32⟩
  | 118 => ⟨S_, .f32⟩
  | 119 => ⟨S64, .f32⟩
  | 120 => ⟨S64, .f32⟩
  | 121 => ⟨S8192, .f32⟩
  | 122 => ⟨S8192x1, .f32⟩
  | 123 => ⟨S1x64, .f32⟩
  | 124 => ⟨S8192x64, .f32⟩
  | 125 => ⟨S8192x64, .f32⟩
  | 126 => ⟨S8192x64, .f32⟩
  | 127 => ⟨S8192x64, .f32⟩
  | _ => ⟨S4x8192x1024, .f32⟩

abbrev hbmTy0_1 (i : Nat) : BufTy := match i % 128 with
  | 0 => ⟨S1x8192x1x64, .f32⟩
  | 1 => ⟨S8192x64, .f32⟩
  | 2 => ⟨S1x8192x1x64, .f32⟩
  | 3 => ⟨S4x8192x4x64, .f32⟩
  | 4 => ⟨S4x8192x4x64, .f32⟩
  | 5 => ⟨S4x8192x4x64, .f32⟩
  | 6 => ⟨S4x8192x4x64, .f32⟩
  | 7 => ⟨S4x8192x4x64, .f32⟩
  | 8 => ⟨S4x8192x4x64, .f32⟩
  | 9 => ⟨S4x8192x4x64, .f32⟩
  | 10 => ⟨S4x8192x4x64, .f32⟩
  | 11 => ⟨S4x8192x4x64, .f32⟩
  | 12 => ⟨S4x8192x4x64, .f32⟩
  | 13 => ⟨S4x8192x4x64, .f32⟩
  | 14 => ⟨S4x8192x4x64, .f32⟩
  | 15 => ⟨S4x8192x4x128, .f32⟩
  | 16 => ⟨S_, .f32⟩
  | 17 => ⟨S4x8192x4x128, .f32⟩
  | 18 => ⟨S4x8192x4x128, .f32⟩
  | 19 => ⟨S4x8192x4x128, .f32⟩
  | 20 => ⟨S4x8192x4x128, .f32⟩
  | 21 => ⟨S4x8192x1024, .f32⟩
  | 22 => ⟨S4x8192x1024, .f32⟩
  | 23 => ⟨S_, .f32⟩
  | 24 => ⟨S4x8192x1024, .f32⟩
  | 25 => ⟨S4x8192x1024, .f32⟩
  | 26 => ⟨S_, .f32⟩
  | 27 => ⟨S4x8192x1024, .f32⟩
  | 28 => ⟨S4x8192x1024, .f32⟩
  | 29 => ⟨S4x8192x1024, .f32⟩
  | 30 => ⟨S4x256, .f32⟩
  | 31 => ⟨S1024, .f32⟩
  | 32 => ⟨S1x1x1024, .f32⟩
  | 33 => ⟨S4x8192x1024, .f32⟩
  | 34 => ⟨S4x8192x1024, .f32⟩
  | 35 => ⟨S4x8192x512, .f32⟩
  | 36 => ⟨S4x8192x512, .f32⟩
  | 37 => ⟨S4x8192x3072, .f32⟩
  | 38 => ⟨S32768x3072, .f32⟩
  | 39 => ⟨S4x8192x768, .f32⟩
  | 40 => ⟨S32768x768, .f32⟩
  | 41 => ⟨S4x8192x1024, .f32⟩
  | 42 => ⟨S4x8192x1024, .f32⟩
  | 43 => ⟨S_, .f32⟩
  | 44 => ⟨S4x8192x1024, .f32⟩
  | 45 => ⟨S4x8192x1024, .f32⟩
  | 46 => ⟨S_, .f32⟩
  | 47 => ⟨S4x8192x1024, .f32⟩
  | 48 => ⟨S4x8192x1024, .f32⟩
  | 49 => ⟨S4x8192x1024, .f32⟩
  | 50 => ⟨S4x8192x1024, .f32⟩
  | 51 => ⟨S_, .f32⟩
  | 52 => ⟨S4x8192x1024, .f32⟩
  | 53 => ⟨S4x8192x1024, .f32⟩
  | 54 => ⟨S_, .f32⟩
  | 55 => ⟨S4x8192x1024, .f32⟩
  | 56 => ⟨S4x8192x1024, .f32⟩
  | 57 => ⟨S4x8192x2048, .f32⟩
  | 58 => ⟨S32768x2048, .f32⟩
  | 59 => ⟨S32768x3072, .bf16⟩
  | 60 => ⟨S32768x768, .bf16⟩
  | 61 => ⟨S32768x2048, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_call0_v0 : Ref sig .tc := ⟨.hbm, 44, rfl⟩
abbrev main_call0_c : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_c_1 : Ref sig .tc := ⟨.hbm, 51, rfl⟩
abbrev main_call0_v5 : Ref sig .tc := ⟨.hbm, 52, rfl⟩
abbrev main_call0_v6 : Ref sig .tc := ⟨.hbm, 53, rfl⟩
abbrev main_call0_c_2 : Ref sig .tc := ⟨.hbm, 54, rfl⟩
abbrev main_call0_v7 : Ref sig .tc := ⟨.hbm, 55, rfl⟩
abbrev main_call0_v8 : Ref sig .tc := ⟨.hbm, 56, rfl⟩
abbrev main_call0_c_3 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_v34 : Ref sig .tc := ⟨.hbm, 64, rfl⟩
abbrev main_c_4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_5 : Ref sig .tc := ⟨.hbm, 80, rfl⟩
abbrev main_v49 : Ref sig .tc := ⟨.hbm, 81, rfl⟩
abbrev main_v50 : Ref sig .tc := ⟨.hbm, 82, rfl⟩
abbrev main_cst_6 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_7 : Ref sig .tc := ⟨.hbm, 115, rfl⟩
abbrev main_v82 : Ref sig .tc := ⟨.hbm, 116, rfl⟩
abbrev main_v83 : Ref sig .tc := ⟨.hbm, 117, rfl⟩
abbrev main_cst_8 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_9 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_call1_v5 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_10 : Ref sig .tc := ⟨.hbm, 171, rfl⟩
abbrev main_v127 : Ref sig .tc := ⟨.hbm, 172, rfl⟩
abbrev main_v128 : Ref sig .tc := ⟨.hbm, 173, rfl⟩
abbrev main_cst_11 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_12 : Ref sig .tc := ⟨.hbm, 179, rfl⟩
abbrev main_v133 : Ref sig .tc := ⟨.hbm, 180, rfl⟩
abbrev main_v134 : Ref sig .tc := ⟨.hbm, 181, rfl⟩
abbrev main_cst_13 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩

abbrev nD : Nat := 1
abbrev τ : Topo := Topo.v7x

variable {F : FTy → Type} [FloatOps F]
-- ==== Kernel3.lean ====
abbrev S4x8192x1024 : Shape := ⟨3, ![4, 8192, 1024]⟩
abbrev S32768x1024 : Shape := ⟨2, ![32768, 1024]⟩
abbrev S32768x512 : Shape := ⟨2, ![32768, 512]⟩
abbrev S32768x2048 : Shape := ⟨2, ![32768, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x32 : Shape := ⟨2, ![1024, 32]⟩
abbrev S32x1024 : Shape := ⟨2, ![32, 1024]⟩
abbrev S1024x4 : Shape := ⟨2, ![1024, 4]⟩
abbrev S4x1024 : Shape := ⟨2, ![4, 1024]⟩
abbrev S_ : Shape := ⟨0, ![]⟩
abbrev S92x1024 : Shape := ⟨2, ![92, 1024]⟩
abbrev S128x1024 : Shape := ⟨2, ![128, 1024]⟩
abbrev S32 : Shape := ⟨1, ![32]⟩
abbrev S4 : Shape := ⟨1, ![4]⟩
abbrev S92 : Shape := ⟨1, ![92]⟩
abbrev S128 : Shape := ⟨1, ![128]⟩
abbrev S128x1 : Shape := ⟨2, ![128, 1]⟩
abbrev S128x128 : Shape := ⟨2, ![128, 128]⟩
abbrev S1024x1024 : Shape := ⟨2, ![1024, 1024]⟩
abbrev S512x1024 : Shape := ⟨2, ![512, 1024]⟩
abbrev S1024 : Shape := ⟨1, ![1024]⟩
abbrev S32768x128 : Shape := ⟨2, ![32768, 128]⟩
abbrev S8x32768 : Shape := ⟨2, ![8, 32768]⟩
abbrev S512x128 : Shape := ⟨2, ![512, 128]⟩
abbrev S512x512 : Shape := ⟨2, ![512, 512]⟩
abbrev S8x512 : Shape := ⟨2, ![8, 512]⟩
abbrev S8x128 : Shape := ⟨2, ![8, 128]⟩
abbrev S2x128x512 : Shape := ⟨3, ![2, 128, 512]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S1x128x128 : Shape := ⟨3, ![1, 128, 128]⟩
abbrev S2x512 : Shape := ⟨2, ![2, 512]⟩
abbrev S120x512 : Shape := ⟨2, ![120, 512]⟩

abbrev nBuf : Space → Nat
  | .hbm => 41
  | .vmem => 27
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x512, .bf16⟩
  | .hbm, ⟨3, _⟩ => ⟨S32768x2048, .bf16⟩
  | .hbm, ⟨4, _⟩ => ⟨S1x1024x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x32, .f32⟩
  | .hbm, ⟨11, _⟩ => ⟨S1x32, .f32⟩
  | .hbm, ⟨12, _⟩ => ⟨S32768x1024, .f32⟩
  | .hbm, ⟨13, _⟩ => ⟨S1024x32, .f32⟩
  | .hbm, ⟨14, _⟩ => ⟨S32x1024, .f32⟩
  | .hbm, ⟨15, _⟩ => ⟨S1024x4, .f32⟩
  | .hbm, ⟨16, _⟩ => ⟨S4x1024, .f32⟩
  | .hbm, ⟨17, _⟩ => ⟨S_, .f32⟩
  | .hbm, ⟨18, _⟩ => ⟨S92x1024, .f32⟩
  | .hbm, ⟨19, _⟩ => ⟨S128x1024, .f32⟩
  | .hbm, ⟨20, _⟩ => ⟨S128x1024, .bf16⟩
  | .hbm, ⟨21, _⟩ => ⟨S32, .f32⟩
  | .hbm, ⟨22, _⟩ => ⟨S4, .f32⟩
  | .hbm, ⟨23, _⟩ => ⟨S_, .f32⟩
  | .hbm, ⟨24, _⟩ => ⟨S92, .f32⟩
  | .hbm, ⟨25, _⟩ => ⟨S128, .f32⟩
  | .hbm, ⟨26, _⟩ => ⟨S128x1, .f32⟩
  | .hbm, ⟨27, _⟩ => ⟨S128x128, .f32⟩
  | .hbm, ⟨28, _⟩ => ⟨S1024x1024, .f32⟩
  | .hbm, ⟨29, _⟩ => ⟨S1024x1024, .bf16⟩
  | .hbm, ⟨30, _⟩ => ⟨S512x1024, .f32⟩
  | .hbm, ⟨31, _⟩ => ⟨S512x1024, .bf16⟩
  | .hbm, ⟨32, _⟩ => ⟨S1024x1024, .f32⟩
  | .hbm, ⟨33, _⟩ => ⟨S1024x1024, .bf16⟩
  | .hbm, ⟨34, _⟩ => ⟨S1024, .f32⟩
  | .hbm, ⟨35, _⟩ => ⟨S1x1024, .f32⟩
  | .hbm, ⟨36, _⟩ => ⟨S32768x1024, .f32⟩
  | .hbm, ⟨37, _⟩ => ⟨S32768x1024, .bf16⟩
  | .hbm, ⟨38, _⟩ => ⟨S32768x128, .f32⟩
  | .hbm, ⟨39, _⟩ => ⟨S8x32768, .f32⟩
  | .hbm, ⟨40, _⟩ => ⟨S512x128, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S128x1024, .bf16⟩
  | .local _ .vmem, ⟨15, _⟩ => ⟨S128x128, .f32⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x128, .f32⟩
  | .local _ .vmem, ⟨21, _⟩ => ⟨S512x128, .f32⟩
  | .local _ .vmem, ⟨22, _⟩ => ⟨S8x512, .f32⟩
  | .local _ .vmem, ⟨23, _⟩ => ⟨S8x512, .f32⟩
  | .local _ .vmem, ⟨24, _⟩ => ⟨S8x128, .f32⟩
  | .local _ .vmem, ⟨25, _⟩ => ⟨S8x128, .f32⟩
  | .local _ .vmem, ⟨26, _⟩ => ⟨S2x128x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let c0_i32 : BitVec 32 := 0#32
  ![v0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S4x8192x1024 : Shape := ⟨3, ![4, 8192, 1024]⟩
abbrev S32768x1024 : Shape := ⟨2, ![32768, 1024]⟩
abbrev S32768x512 : Shape := ⟨2, ![32768, 512]⟩
abbrev S32768x2048 : Shape := ⟨2, ![32768, 2048]⟩
abbrev S1x1024x1024 : Shape := ⟨3, ![1, 1024, 1024]⟩
abbrev S1x512x1024 : Shape := ⟨3, ![1, 512, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S4x8192x2048 : Shape := ⟨3, ![4, 8192, 2048]⟩
abbrev S1024x1024 : Shape := ⟨2, ![1024, 1024]⟩
abbrev S4x8192x512 : Shape := ⟨3, ![4, 8192, 512]⟩
abbrev S512x1024 : Shape := ⟨2, ![512, 1024]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S32768x1024, .bf16⟩
  | .hbm, ⟨2, _⟩ => ⟨S32768x512, .bf16⟩
  | .hbm, ⟨3, _⟩ => ⟨S32768x2048, .bf16⟩
  | .hbm, ⟨4, _⟩ => ⟨S1x1024x1024, .f32⟩
  | .hbm, ⟨5, _⟩ => ⟨S1x512x1024, .f32⟩
  | .hbm, ⟨6, _⟩ => ⟨S1x1024x1024, .f32⟩
  | .hbm, ⟨7, _⟩ => ⟨S1x1024, .f32⟩
  | .hbm, ⟨8, _⟩ => ⟨S1x1024x4, .f32⟩
  | .hbm, ⟨9, _⟩ => ⟨S1x4, .f32⟩
  | .hbm, ⟨10, _⟩ => ⟨S1x1024x32, .f32⟩
  | .hbm, ⟨11, _⟩ => ⟨S1x32, .f32⟩
  | .hbm, ⟨12, _⟩ => ⟨S32768x2048, .f32⟩
  | .hbm, ⟨13, _⟩ => ⟨S4x8192x2048, .f32⟩
  | .hbm, ⟨14, _⟩ => ⟨S4x8192x1024, .f32⟩
  | .hbm, ⟨15, _⟩ => ⟨S4x8192x1024, .f32⟩
  | .hbm, ⟨16, _⟩ => ⟨S32768x1024, .f32⟩
  | .hbm, ⟨17, _⟩ => ⟨S4x8192x1024, .f32⟩
  | .hbm, ⟨18, _⟩ => ⟨S1024x1024, .f32⟩
  | .hbm, ⟨19, _⟩ => ⟨S4x8192x1024, .f32⟩
  | .hbm, ⟨20, _⟩ => ⟨S32768x512, .f32⟩
  | .hbm, ⟨21, _⟩ => ⟨S4x8192x512, .f32⟩
  | .hbm, ⟨22, _⟩ => ⟨S512x1024, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S1024x1024, .f32⟩
  | .hbm, ⟨28, _⟩ => ⟨S4x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x1024, .f32⟩
  | .hbm, ⟨42, _⟩ => ⟨S4x8192x1024, .f32⟩
  | .hbm, ⟨43, _⟩ => ⟨S1024, .f32⟩
  | .hbm, ⟨44, _⟩ => ⟨S1x1x1024, .f32⟩
  | .hbm, ⟨45, _⟩ => ⟨S4x8192x1024, .f32⟩
  | .hbm, ⟨46, _⟩ => ⟨S4x8192x1024, .f32⟩
  | .hbm, ⟨47, _⟩ => ⟨S32768x1024, .f32⟩
  | .hbm, ⟨48, _⟩ => ⟨S32768x1024, .f32⟩
  | .hbm, ⟨49, _⟩ => ⟨S32768x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.InVocab.lean ====
module

public import proofs.«01_k».proof.Proof.Gen.Kernel2Ideal.Value
public import Idealize.ShloMosaic.Lib.KernelVsHost
public import Idealize.ShloMosaic.PureOps.Ideal.Laws

@[expose] public section

set_option maxRecDepth 16384

noncomputable section

namespace Cert.Proof.In

open Idealize.ShloMosaic Idealize.ShloMosaic.ValueIdx

/-! ## Arrays read at natural numbers -/

/-- A matrix read at two natural numbers: its entry there, zero outside. -/
def at2 {m n : ℕ} (v : (⟨2, ![m, n]⟩ : Shape).Idx → EReal) (i j : ℕ) : EReal :=
  if h : i < m ∧ j < n then v (ix2 ⟨i, h.1⟩ ⟨j, h.2⟩) else 0

/-- A matrix at an index is its reading at the index's coordinates. -/
theorem at2_of {m n : ℕ} (v : (⟨2, ![m, n]⟩ : Shape).Idx → EReal) (y : (⟨2, ![m, n]⟩ : Shape).Idx) (i j : ℕ)
    (hi : (y 0).val = i) (hj : (y 1).val = j) : v y = at2 v i j := by
  subst hi hj
  have h0 : (y 0).val < m := (y 0).isLt
  have h1 : (y 1).val < n := (y 1).isLt
  unfold at2
  rw [dif_pos ⟨h0, h1⟩]
  exact congrArg v (eq_ix2 y)

/-! ## What one row of the input projection computes -/

/-- A row's entry divided by the row's root mean square, times the gain. -/
def nrm (x g : ℕ → EReal) (k : ℕ) : EReal :=
  x k * Ideal.rsqrt (Ideal.div (∑ a : Fin 1024, x a * x a) (Ideal.ofBits .f32 0x44800000#32)
    + Ideal.ofBits .f32 0x358637BD#32) * g k

/-- The normalised row against column `c` of the weight. -/
def proj (x g : ℕ → EReal) (w : ℕ → ℕ → EReal) (c : ℕ) : EReal := ∑ k : Fin 1024, nrm x g k * w k c

/-- The rotary embedding as the kernel applies it: the column times the cosine, and the column half a head away
    times the signed sine. -/
def rot (p cs sn : ℕ → EReal) (c : ℕ) : EReal :=
  p c * cs (c % 128) + p (c / 128 * 128 + (c % 128 + 64) % 128) * sn (c % 128)

/-- The decay factor with which position `n` of a chunk is stored. -/
def dec (l s : EReal) (n : ℕ) : EReal := Ideal.exp (l * (((n % 128 + 1 : ℕ) : ℝ) : EReal)) * s

/-- The logistic function as the kernel spells it. -/
def sigm (a : EReal) : EReal := Ideal.div 1 (1 + Ideal.exp (0 - a))

/-- The logarithm of head `h`'s decay. -/
def lgc (h : ℕ) : EReal := ((Real.log ((2 ^ (5 + h) - 1) / 2 ^ (5 + h)) : ℝ) : EReal)

/-- One row of the retention projection handed to the mixers: queries, keys, values and gate, side by side. -/
def retv (x g : ℕ → EReal) (w : ℕ → ℕ → EReal) (cs sn gn : ℕ → EReal) (n c : ℕ) : EReal :=
  if c < 512 then rot (proj x g w) cs sn c * dec (lgc (c / 128)) 1 n
  else if c < 1024 then rot (proj x g w) cs sn c * dec (-lgc (c / 128 - 4)) (Ideal.ofBits .f32 0x3DB504F3#32) n
  else if c < 2048 then proj x g w c
  else proj x g w c * sigm (proj x g w c) * gn (c - 2048)

/-- The normalised row depends on its 1024 entries only. -/
theorem nrm_congr {x x' g g' : ℕ → EReal} (hx : ∀ k < 1024, x k = x' k) (hg : ∀ k < 1024, g k = g' k) (k : ℕ)
    (hk : k < 1024) : nrm x g k = nrm x' g' k := by
  unfold nrm
  rw [hx k hk, hg k hk, Finset.sum_congr rfl fun a _ => by rw [hx a.val a.isLt]]

/-- So does the projection, with the weight's column. -/
theorem proj_congr {x x' g g' : ℕ → EReal} {w w' : ℕ → ℕ → EReal} {c c' : ℕ} (hx : ∀ k < 1024, x k = x' k)
    (hg : ∀ k < 1024, g k = g' k) (hw : ∀ k < 1024, w k c = w' k c') : proj x g w c = proj x' g' w' c' := by
  unfold proj
  exact Finset.sum_congr rfl fun k _ => by rw [nrm_congr hx hg k.val k.isLt, hw k.val k.isLt]

end Cert.Proof.In
-- ==== Proof.InBlock.lean ====
module

public import proofs.«01_k».proof.Proof.InVocab

@[expose] public section

set_option maxRecDepth 16384

noncomputable section

namespace Cert.Proof.In

open Cert.Kernel2Ideal Cert.Kernel2Ideal.Gen
open Idealize.ShloMosaic Idealize.ShloMosaic.ValueIdx

/-- The kernel's normalised block of rows, at an index. -/
theorem pay4_apply (x : Vec Ideal S256x1024 .f32) (g : Vec Ideal S1x1024 .f32) (y : S256x1024.Idx) :
    k0_pay4 (F := Ideal) x g y = nrm (at2 x (y 0).val) (at2 g 0) (y 1).val := by
  unfold k0_pay4 nrm
  simp only [shapeCast_self]
  show (x y * broadcastTo (s := S256x1) S256x1024 _ _ y) * broadcastTo (s := S1x1024) S256x1024 g _ y = _
  rw [broadcastTo_apply (s := S256x1) _ _ y (ix2 (y 0) 0) (by
      intro a; match a with
      | ⟨0, _⟩ => rfl
      | ⟨1, _⟩ => rfl)]
  rw [broadcastTo_apply (s := S1x1024) _ _ y (ix2 0 (y 1)) (by
      intro a; match a with
      | ⟨0, _⟩ => rfl
      | ⟨1, _⟩ => rfl)]
  rw [at2_of g (ix2 0 (y 1)) 0 (y 1).val rfl rfl, at2_of x y _ _ rfl rfl]
  refine congrArg (fun z => at2 x (y 0).val (y 1).val * z * at2 g 0 (y 1).val) ?_
  show Ideal.rsqrt (Ideal.div (shapeCast S256x1 _ _ (ix2 (y 0) 0)) _ + _) = _
  refine congrArg (fun z => Ideal.rsqrt (Ideal.div z _ + _)) ?_
  refine (shapeCast_apply (s := S256) (t := S256x1) _ _ (ix2 (y 0) 0) (ix1 (y 0)) (by
    rw [Shape.rowMajor_val_one, Shape.rowMajor_val_two]; show (y 0).val = (y 0).val * 1 + 0; omega)).trans ?_
  refine (Ideal.multiReduction_add_single (s := S256x1024) (t := S256) (a := 1) _ _ reduces_S256x1024_S256 _ rfl _).trans ?_
  refine Finset.sum_congr rfl fun k _ => ?_
  rw [← at2_of x (reduces_S256x1024_S256.lift (ix1 (y 0)) k) (y 0).val k.val rfl rfl]
  rfl

/-- Its product with 512 columns of the weight, at an index. -/
theorem pay8_apply (h : FVec Ideal S256x1024 .bf16) (w : Vec Ideal S1024x512 .bf16) (y : S256x512.Idx) :
    k0_pay8 (F := Ideal) h w y = ∑ k : Fin 1024, at2 h (y 0).val k.val * at2 w k.val (y 1).val := by
  unfold k0_pay8
  simp only [shapeCast_self]
  show FloatOps.matmul dot_S256x1024_S1024x512_S256x512_1_0_0_1_n_n none h w (constant S256x512 .f32 0x00000000#32) y = _
  rw [Ideal.matmul_constant_zero_apply, ← Equiv.sum_comp (contrEquiv1 dot_S256x1024_S1024x512_S256x512_1_0_0_1_n_n 1024 rfl rfl).symm]
  refine Finset.sum_congr rfl fun k _ => ?_
  rw [at2_of h _ (y 0).val k.val rfl (contrEquiv1_symm_val dot_S256x1024_S1024x512_S256x512_1_0_0_1_n_n 1024 rfl rfl k), at2_of w _ k.val (y 1).val (contrEquiv1_symm_val dot_S256x1024_S1024x512_S256x512_1_0_0_1_n_n 1024 rfl rfl k) rfl]

/-- Its product with 256 columns of the weight, at an index. -/
theorem pay55_apply (h : FVec Ideal S256x1024 .bf16) (w : Vec Ideal S1024x256 .bf16) (y : S256x256.Idx) :
    k0_pay55 (F := Ideal) h w y = ∑ k : Fin 1024, at2 h (y 0).val k.val * at2 w k.val (y 1).val := by
  unfold k0_pay55
  simp only [shapeCast_self]
  show FloatOps.matmul dot_S256x1024_S1024x256_S256x256_1_0_0_1_n_n none h w (constant S256x256 .f32 0x00000000#32) y = _
  rw [Ideal.matmul_constant_zero_apply, ← Equiv.sum_comp (contrEquiv1 dot_S256x1024_S1024x256_S256x256_1_0_0_1_n_n 1024 rfl rfl).symm]
  refine Finset.sum_congr rfl fun k _ => ?_
  rw [at2_of h _ (y 0).val k.val rfl (contrEquiv1_symm_val dot_S256x1024_S1024x256_S256x256_1_0_0_1_n_n 1024 rfl rfl k), at2_of w _ k.val (y 1).val (contrEquiv1_symm_val dot_S256x1024_S1024x256_S256x256_1_0_0_1_n_n 1024 rfl rfl k) rfl]

/-- The positions inside a chunk, counted from one. -/
theorem pay3_apply (y : S256x128.Idx) :
    k0_pay3 (F := Ideal) y = ((((y 0).val % 128 + 1 : ℕ) : ℝ) : EReal) := by
  have hw : ∀ r : Fin 256, (let a : BitVec 32 := IntOp.remsi .vector (BitVec.ofNat 32 r.val) 128#32
      IntOp.addi (Scalar.select (IntOp.andi (IntOp.xori (IntOp.cmpi .slt a 0#32) (Scalar.cmpi .slt 128#32 0#32)) (IntOp.cmpi .ne a 0#32))
        (IntOp.addi a 128#32) a) 1#32).toInt = ((r.val % 128 + 1 : ℕ) : ℤ) := by decide +kernel
  have := hw (y 0)
  have hi : iota Kind.tc S256x128 32 [0] iota_S256x128_d0_w32 y = BitVec.ofNat 32 (y 0).val :=
    iota_single_apply .tc S256x128 32 0 iota_S256x128_d0_w32 y
  have hs : Scalar.select (Scalar.cmpi CmpIPredicate.eq 128#32 0#32) 1#32 128#32 = 128#32 := by decide
  unfold k0_pay3
  show (((_ : BitVec 32).toInt : ℝ) : EReal) = _
  rw [show ((((y 0).val % 128 + 1 : ℕ) : ℝ) : EReal) = (((((y 0).val % 128 + 1 : ℕ) : ℤ) : ℝ) : EReal) by push_cast; rfl, ← this]
  simp only [addi, select, andi, xori, cmpi, remsi, broadcast, broadcastTo, hi, hs]

/-- A load of a rectangle of a matrix, read at natural numbers. -/
theorem at2_ld {m n a b : ℕ} (v : (⟨2, ![m, n]⟩ : Shape).Idx → EReal) (s t : ℕ)
    (inb : ∀ i, (![s, t] : Fin 2 → ℕ) i + (![a, b] : Fin 2 → ℕ) i ≤ (⟨2, ![m, n]⟩ : Shape).size i) (r c : ℕ) (hr : r < a) (hc : c < b) :
    at2 (m := a) (n := b) (View.ld (Val := Elt Ideal) (e' := .f32) v (Rect.unit (s := ⟨2, ![m, n]⟩) ![s, t] ![a, b] inb)) r c = at2 v (s + r) (t + c) := by
  unfold at2
  rw [dif_pos ⟨hr, hc⟩]
  have h0 : s + a ≤ m := inb 0
  have h1 : t + b ≤ n := inb 1
  rw [dif_pos ⟨by omega, by omega⟩]
  exact congrArg v (funext fun i => Fin.ext (by match i with
    | ⟨0, _⟩ => show s + 1 * r = s + r; omega
    | ⟨1, _⟩ => show t + 1 * c = t + c; omega))

/-- A half of the rows against 512 columns of the weight. -/
theorem raw_apply {s b : ℕ} (x0 : Vec Ideal S512x1024 .f32) (x1 : Vec Ideal S1x1024 .f32) (x2 : Vec Ideal S1024x5888 .bf16)
    (i0 i1 i2) (r c : ℕ) (hr : r < 256) (hc : c < 512) :
    at2 (m := 256) (n := 512) (k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2))) r c
      = proj (at2 x0 (s + r)) (at2 x1 0) (at2 x2) (b + c) := by
  rw [← at2_of (m := 256) (n := 512) _ (ix2 ⟨r, hr⟩ ⟨c, hc⟩) r c rfl rfl, pay8_apply]
  unfold proj
  refine Finset.sum_congr rfl fun k _ => ?_
  refine congrArg₂ (· * ·) ?_ ((at2_ld x2 0 b i2 k.val c k.isLt hc).trans (by rw [Nat.zero_add]))
  rw [← at2_of (m := 256) (n := 1024) _ (ix2 ⟨r, hr⟩ k) r k.val rfl rfl, pay4_apply]
  refine nrm_congr (fun a ha => ?_) (fun a ha => ?_) k.val k.isLt
  · exact (at2_ld x0 s 0 i0 r a hr ha).trans (by rw [Nat.zero_add])
  · exact (at2_ld x1 0 0 i1 0 a (by decide) ha).trans (by rw [Nat.zero_add, Nat.zero_add])

/-- The same against 256 columns. -/
theorem raw256_apply {s b : ℕ} (x0 : Vec Ideal S512x1024 .f32) (x1 : Vec Ideal S1x1024 .f32) (x2 : Vec Ideal S1024x5888 .bf16)
    (i0 i1 i2) (y : S256x256.Idx) :
    (k0_pay55 (F := Ideal) (k0_pay4 (F := Ideal) (View.ld x0 (Rect.unit ![s, 0] ![256, 1024] i0)) (View.ld x1 (Rect.unit ![0, 0] ![1, 1024] i1)))
      (View.ld x2 (Rect.unit ![0, b] ![1024, 256] i2))) y
      = proj (at2 x0 (s + (y 0).val)) (at2 x1 0) (at2 x2) (b + (y 1).val) := by
  have hr : (y 0).val < 256 := (y 0).isLt
  have hc : (y 1).val < 256 := (y 1).isLt
  rw [pay55_apply]
  unfold proj
  refine Finset.sum_congr rfl fun k _ => ?_
  refine congrArg₂ (· * ·) ?_ ((at2_ld x2 0 b i2 k.val _ k.isLt hc).trans (by rw [Nat.zero_add]))
  rw [← at2_of (m := 256) (n := 1024) _ (ix2 (y 0) k) (y 0).val k.val rfl rfl, pay4_apply]
  refine nrm_congr (fun a ha => ?_) (fun a ha => ?_) k.val k.isLt
  · exact (at2_ld x0 s 0 i0 _ a hr ha).trans (by rw [Nat.zero_add])
  · exact (at2_ld x1 0 0 i1 0 a (by decide) ha).trans (by rw [Nat.zero_add, Nat.zero_add])

/-- A head's rotary embedding and decay over a block of raw columns, at an index. -/
theorem rot_apply (raw : FVec Ideal S256x512 .f32) (o : ℕ) (ho : o % 128 = 0) (hs : S256x512.Slices ![0, o] S256x128)
    (cs sn : FVec Ideal S256x128 .f32) (l sc : EReal) (y : S256x128.Idx) :
    mulf (addf (mulf (extractStridedSlice S256x128 ![0, o] raw hs) cs)
        (mulf (dynamicRotate 1 64#32 none (extractStridedSlice S256x128 ![0, o] raw hs) rotates_S256x128_d1) sn))
      (mulf (exp (mulf (broadcast S256x128 (l : Ideal .f32)) (k0_pay3 (F := Ideal)))) (broadcast S256x128 (sc : Ideal .f32))) y
      = rot (at2 raw (y 0).val) (at2 cs (y 0).val) (at2 sn (y 0).val) (o + (y 1).val) * dec l sc (y 0).val := by
  have hc : (y 1).val < 128 := (y 1).isLt
  have h1 : (o + (y 1).val) % 128 = (y 1).val := by omega
  have h2 : (o + (y 1).val) / 128 * 128 = o := by omega
  have hsl : ∀ z : S256x128.Idx, extractStridedSlice S256x128 ![0, o] raw hs z = at2 raw (z 0).val (o + (z 1).val) := by
    intro z
    have hb : o + 128 ≤ 512 := hs.2 1
    have hz : (z 1).val < 128 := (z 1).isLt
    refine (extractStridedSlice_apply ![0, o] raw hs z (ix2 (z 0) ⟨o + (z 1).val, by omega⟩) (by
      intro a; match a with
      | ⟨0, _⟩ => exact (Nat.zero_add _).symm
      | ⟨1, _⟩ => rfl)).trans (at2_of raw _ _ _ rfl rfl)
  have hro : dynamicRotate 1 64#32 none (extractStridedSlice S256x128 ![0, o] raw hs) rotates_S256x128_d1 y
      = at2 raw (y 0).val (o + ((y 1).val + 64) % 128) := by
    refine (dynamicRotate_apply (s := S256x128) 1 64#32 _ rotates_S256x128_d1 y
      (ix2 (y 0) ⟨((y 1).val + 64) % 128, Nat.mod_lt _ (by decide)⟩) (by
        intro a; match a with
        | ⟨0, _⟩ => rfl
        | ⟨1, _⟩ => show ((y 1).val + 64) % 128 = ((y 1).val + 128 - 64 % 128) % 128; omega)).trans (hsl _)
  show (extractStridedSlice S256x128 ![0, o] raw hs y * cs y
      + dynamicRotate 1 64#32 none (extractStridedSlice S256x128 ![0, o] raw hs) rotates_S256x128_d1 y * sn y)
      * (Ideal.exp (l * k0_pay3 (F := Ideal) y) * sc) = _
  rw [hsl, hro, pay3_apply, at2_of cs y _ _ rfl rfl, at2_of sn y _ _ rfl rfl]
  unfold rot dec
  rw [h1, h2]

/-- A whole piece of rotated and decayed columns: rows from `s`, the head's columns from `b + o`. -/
theorem rot_piece {s b o : ℕ} (hb : b % 128 = 0) (ho : o % 128 = 0) (x0 : Vec Ideal S512x1024 .f32) (x1 : Vec Ideal S1x1024 .f32)
    (x2 : Vec Ideal S1024x5888 .bf16) (x3 x4 : Vec Ideal S512x128 .f32) (i0 i1 i2 i3 i4) (hs : S256x512.Slices ![0, o] S256x128)
    (l sc : EReal) (y : S256x128.Idx) :
    (let raw := k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2))
    mulf (addf (mulf (extractStridedSlice S256x128 ![0, o] raw hs) (k0_pay10 (F := Ideal) (View.ld x3 (Rect.unit ![s, 0] ![256, 128] i3))))
        (mulf (dynamicRotate 1 64#32 none (extractStridedSlice S256x128 ![0, o] raw hs) rotates_S256x128_d1)
          (k0_pay10 (F := Ideal) (View.ld x4 (Rect.unit ![s, 0] ![256, 128] i4)))))
      (mulf (exp (mulf (broadcast S256x128 (l : Ideal .f32)) (k0_pay3 (F := Ideal)))) (broadcast S256x128 (sc : Ideal .f32)))) y
      = rot (proj (at2 x0 (s + (y 0).val)) (at2 x1 0) (at2 x2)) (at2 x3 (s + (y 0).val)) (at2 x4 (s + (y 0).val)) (b + o + (y 1).val)
        * dec l sc (y 0).val := by
  have hr : (y 0).val < 256 := (y 0).isLt
  have hc : (y 1).val < 128 := (y 1).isLt
  have hq : o + 128 ≤ 512 := hs.2 1
  refine (rot_apply _ o ho hs _ _ l sc y).trans ?_
  have e3 : ∀ j < 128, at2 (m := 256) (n := 128) (k0_pay10 (F := Ideal) (View.ld x3 (Rect.unit ![s, 0] ![256, 128] i3))) (y 0).val j
      = at2 x3 (s + (y 0).val) j := by
    intro j hj
    unfold k0_pay10
    rw [shapeCast_self]
    exact (at2_ld x3 s 0 i3 _ j hr hj).trans (by rw [Nat.zero_add])
  have e4 : ∀ j < 128, at2 (m := 256) (n := 128) (k0_pay10 (F := Ideal) (View.ld x4 (Rect.unit ![s, 0] ![256, 128] i4))) (y 0).val j
      = at2 x4 (s + (y 0).val) j := by
    intro j hj
    unfold k0_pay10
    rw [shapeCast_self]
    exact (at2_ld x4 s 0 i4 _ j hr hj).trans (by rw [Nat.zero_add])
  refine congrArg (· * dec l sc (y 0).val) ?_
  unfold rot
  rw [e3 _ (Nat.mod_lt _ (by decide)), e4 _ (Nat.mod_lt _ (by decide)), raw_apply x0 x1 x2 i0 i1 i2 _ _ hr (by omega),
    raw_apply x0 x1 x2 i0 i1 i2 _ _ hr (by omega)]
  rw [show (o + (y 1).val) % 128 = (b + o + (y 1).val) % 128 by omega,
    show b + (o + (y 1).val) = b + o + (y 1).val by omega,
    show b + ((o + (y 1).val) / 128 * 128 + ((b + o + (y 1).val) % 128 + 64) % 128)
      = (b + o + (y 1).val) / 128 * 128 + ((b + o + (y 1).val) % 128 + 64) % 128 by omega]

end Cert.Proof.In
-- ==== Proof.InPieces.lean ====
module

public import proofs.«01_k».proof.Proof.InBlock
public import Idealize.ShloMosaic.Lib.IdealHost

@[expose] public section

set_option maxRecDepth 16384

noncomputable section

namespace Cert.Proof.In

open Cert.Kernel2Ideal Cert.Kernel2Ideal.Gen
open Idealize.ShloMosaic Idealize.ShloMosaic.ValueIdx

/-- The block of the retention projection a grid point writes. -/
def G6 (x0 : Vec Ideal S512x1024 .f32) (x1 : Vec Ideal S1x1024 .f32) (x2 : Vec Ideal S1024x5888 .bf16)
    (x3 x4 : Vec Ideal S512x128 .f32) (x5 : Vec Ideal S1x1024 .f32) (z : S512x3072.Idx) : Ideal .bf16 :=
  retv (at2 x0 (z 0).val) (at2 x1 0) (at2 x2) (at2 x3 (z 0).val) (at2 x4 (z 0).val) (at2 x5 0) (z 0).val (z 1).val

/-- The block of the attention projection a grid point writes. -/
def G7 (x0 : Vec Ideal S512x1024 .f32) (x1 : Vec Ideal S1x1024 .f32) (x2 : Vec Ideal S1024x5888 .bf16)
    (z : S512x768.Idx) : Ideal .bf16 :=
  proj (at2 x0 (z 0).val) (at2 x1 0) (at2 x2) (3072 + (z 1).val)

/-- The block of the branch gates a grid point writes. -/
def G8 (x0 : Vec Ideal S512x1024 .f32) (x1 : Vec Ideal S1x1024 .f32) (x2 : Vec Ideal S1024x5888 .bf16)
    (z : S512x2048.Idx) : Ideal .bf16 :=
  sigm (proj (at2 x0 (z 0).val) (at2 x1 0) (at2 x2) (3840 + (z 1).val))

/-- The pattern of one denotes one. -/
theorem one_bits : (Ideal.ofBits .f32 0x3F800000#32 : EReal) = 1 := Ideal.ofBits_one_f32

/-- The named logarithms of the decays. -/
theorem lg_named : (Named.named (F := Ideal) κ "lg0" (φ := .f32) 0xBD020AEC#32 : EReal) = lgc 0
    ∧ (Named.named (F := Ideal) κ "lg1" (φ := .f32) 0xBC8102B3#32 : EReal) = lgc 1
    ∧ (Named.named (F := Ideal) κ "lg2" (φ := .f32) 0xBC0080AC#32 : EReal) = lgc 2
    ∧ (Named.named (F := Ideal) κ "lg3" (φ := .f32) 0xBB80402B#32 : EReal) = lgc 3 := by
  refine ⟨?_, ?_, ?_, ?_⟩
  · exact (congrArg (Option.getD · _) (rfl : κ "lg0" = some ((Real.log (31 / 32) : ℝ) : EReal))).trans (by
      show ((Real.log (31 / 32) : ℝ) : EReal) = _; unfold lgc; norm_num)
  · exact (congrArg (Option.getD · _) (rfl : κ "lg1" = some ((Real.log (63 / 64) : ℝ) : EReal))).trans (by
      show ((Real.log (63 / 64) : ℝ) : EReal) = _; unfold lgc; norm_num)
  · exact (congrArg (Option.getD · _) (rfl : κ "lg2" = some ((Real.log (127 / 128) : ℝ) : EReal))).trans (by
      show ((Real.log (127 / 128) : ℝ) : EReal) = _; unfold lgc; norm_num)
  · exact (congrArg (Option.getD · _) (rfl : κ "lg3" = some ((Real.log (255 / 256) : ℝ) : EReal))).trans (by
      show ((Real.log (255 / 256) : ℝ) : EReal) = _; unfold lgc; norm_num)

/-- The named negatives of them. -/
theorem nlg_named : (Named.named (F := Ideal) κ "nlg0" (φ := .f32) 0x3D020AEC#32 : EReal) = -lgc 0
    ∧ (Named.named (F := Ideal) κ "nlg1" (φ := .f32) 0x3C8102B3#32 : EReal) = -lgc 1
    ∧ (Named.named (F := Ideal) κ "nlg2" (φ := .f32) 0x3C0080AC#32 : EReal) = -lgc 2
    ∧ (Named.named (F := Ideal) κ "nlg3" (φ := .f32) 0x3B80402B#32 : EReal) = -lgc 3 := by
  refine ⟨?_, ?_, ?_, ?_⟩
  · exact (congrArg (Option.getD · _) (rfl : κ "nlg0" = some ((-(Real.log (31 / 32)) : ℝ) : EReal))).trans (by
      show ((-(Real.log (31 / 32)) : ℝ) : EReal) = _; unfold lgc; rw [EReal.coe_neg]; norm_num)
  · exact (congrArg (Option.getD · _) (rfl : κ "nlg1" = some ((-(Real.log (63 / 64)) : ℝ) : EReal))).trans (by
      show ((-(Real.log (63 / 64)) : ℝ) : EReal) = _; unfold lgc; rw [EReal.coe_neg]; norm_num)
  · exact (congrArg (Option.getD · _) (rfl : κ "nlg2" = some ((-(Real.log (127 / 128)) : ℝ) : EReal))).trans (by
      show ((-(Real.log (127 / 128)) : ℝ) : EReal) = _; unfold lgc; rw [EReal.coe_neg]; norm_num)
  · exact (congrArg (Option.getD · _) (rfl : κ "nlg3" = some ((-(Real.log (255 / 256)) : ℝ) : EReal))).trans (by
      show ((-(Real.log (255 / 256)) : ℝ) : EReal) = _; unfold lgc; rw [EReal.coe_neg]; norm_num)

section Pieces
variable (x0 : Vec Ideal S512x1024 .f32) (x1 : Vec Ideal S1x1024 .f32) (x2 : Vec Ideal S1024x5888 .bf16)
  (x3 x4 : Vec Ideal S512x128 .f32) (x5 : Vec Ideal S1x1024 .f32)

/-- A unit-stride rectangle's index: its offsets added. -/
theorem emb2 {m n a b : ℕ} (s t : ℕ) (inb) (y : (⟨2, ![a, b]⟩ : Shape).Idx) :
    (((Rect.unit (s := ⟨2, ![m, n]⟩) ![s, t] ![a, b] inb).emb y) 0).val = s + (y 0).val
    ∧ (((Rect.unit (s := ⟨2, ![m, n]⟩) ![s, t] ![a, b] inb).emb y) 1).val = t + (y 1).val :=
  ⟨congrArg (s + ·) (Nat.one_mul _), congrArg (t + ·) (Nat.one_mul _)⟩

/-- The decay depends on the place in the chunk only. -/
theorem dec_mod (l sc : EReal) {n n' : ℕ} (h : n % 128 = n' % 128) : dec l sc n = dec l sc n' := by
  unfold dec; rw [h]

/-- A piece of the queries. -/
theorem q_piece {s o h : ℕ} (hs0 : s % 128 = 0) (ho : o = 128 * h) (i0 i1 i2 i3 i4 ie)
    (hs : S256x512.Slices ![0, o] S256x128) (l sc : EReal) (hl : l = lgc h) (hsc : sc = 1) (y : S256x128.Idx) :
    (let raw := k0_pay8 (F := Ideal) (k0_pay4 (F := Ideal) (View.ld x0 (Rect.unit ![s, 0] ![256, 1024] i0)) (View.ld x1 (Rect.unit ![0, 0] ![1, 1024] i1)))
      (View.ld x2 (Rect.unit ![0, 0] ![1024, 512] i2))
    mulf (addf (mulf (extractStridedSlice S256x128 ![0, o] raw hs) (k0_pay10 (F := Ideal) (View.ld x3 (Rect.unit ![s, 0] ![256, 128] i3))))
        (mulf (dynamicRotate 1 64#32 none (extractStridedSlice S256x128 ![0, o] raw hs) rotates_S256x128_d1)
          (k0_pay10 (F := Ideal) (View.ld x4 (Rect.unit ![s, 0] ![256, 128] i4)))))
      (mulf (exp (mulf (broadcast S256x128 (l : Ideal .f32)) (k0_pay3 (F := Ideal)))) (broadcast S256x128 (sc : Ideal .f32)))) y
      = G6 x0 x1 x2 x3 x4 x5 ((Rect.unit (s := S512x3072) ![s, o] ![256, 128] ie).emb y) := by
  have hq : o + 128 ≤ 512 := hs.2 1
  have hc : (y 1).val < 128 := (y 1).isLt
  refine (rot_piece (b := 0) (by decide) (by omega) x0 x1 x2 x3 x4 i0 i1 i2 i3 i4 hs l sc y).trans ?_
  unfold G6 retv
  rw [(emb2 s o ie y).1, (emb2 s o ie y).2, if_pos (by omega), Nat.zero_add, hl, hsc,
    show (o + (y 1).val) / 128 = h by omega]
  exact congrArg (_ * ·) (dec_mod _ _ (by omega))

/-- A piece of the keys. -/
theorem k_piece {s o h : ℕ} (hs0 : s % 128 = 0) (ho : o = 128 * h) (t : ℕ) (ht : t = 512 + o) (i0 i1 i2 i3 i4 ie)
    (hs : S256x512.Slices ![0, o] S256x128) (l sc : EReal) (hl : l = -lgc h) (hsc : sc = Ideal.ofBits .f32 0x3DB504F3#32) (y : S256x128.Idx) :
    (let raw := k0_pay8 (F := Ideal) (k0_pay4 (F := Ideal) (View.ld x0 (Rect.unit ![s, 0] ![256, 1024] i0)) (View.ld x1 (Rect.unit ![0, 0] ![1, 1024] i1)))
      (View.ld x2 (Rect.unit ![0, 512] ![1024, 512] i2))
    mulf (addf (mulf (extractStridedSlice S256x128 ![0, o] raw hs) (k0_pay10 (F := Ideal) (View.ld x3 (Rect.unit ![s, 0] ![256, 128] i3))))
        (mulf (dynamicRotate 1 64#32 none (extractStridedSlice S256x128 ![0, o] raw hs) rotates_S256x128_d1)
          (k0_pay10 (F := Ideal) (View.ld x4 (Rect.unit ![s, 0] ![256, 128] i4)))))
      (mulf (exp (mulf (broadcast S256x128 (l : Ideal .f32)) (k0_pay3 (F := Ideal)))) (broadcast S256x128 (sc : Ideal .f32)))) y
      = G6 x0 x1 x2 x3 x4 x5 ((Rect.unit (s := S512x3072) ![s, t] ![256, 128] ie).emb y) := by
  have hq : o + 128 ≤ 512 := hs.2 1
  have hc : (y 1).val < 128 := (y 1).isLt
  refine (rot_piece (b := 512) (by decide) (by omega) x0 x1 x2 x3 x4 i0 i1 i2 i3 i4 hs l sc y).trans ?_
  unfold G6 retv
  rw [(emb2 s t ie y).1, (emb2 s t ie y).2, if_neg (by omega), if_pos (by omega), ht, hl, hsc,
    show (512 + o + (y 1).val) / 128 - 4 = h by omega]
  exact congrArg (_ * ·) (dec_mod _ _ (by omega))

/-- A raw half block of 512 columns. -/
theorem raw_idx {s b : ℕ} (i0 i1 i2) (y : S256x512.Idx) :
    k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2)) y
      = proj (at2 x0 (s + (y 0).val)) (at2 x1 0) (at2 x2) (b + (y 1).val) :=
  (at2_of (m := 256) (n := 512) _ y _ _ rfl rfl).trans (raw_apply x0 x1 x2 i0 i1 i2 _ _ (y 0).isLt (y 1).isLt)

/-- A piece of the values. -/
theorem v_piece {s b : ℕ} (hb : 1024 ≤ b) (hb' : b + 512 ≤ 2048) (i0 i1 i2 ie) (y : S256x512.Idx) :
    k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2)) y
      = G6 x0 x1 x2 x3 x4 x5 ((Rect.unit (s := S512x3072) ![s, b] ![256, 512] ie).emb y) := by
  have hc : (y 1).val < 512 := (y 1).isLt
  rw [raw_idx x0 x1 x2]
  unfold G6 retv
  rw [(emb2 s b ie y).1, (emb2 s b ie y).2, if_neg (by omega), if_neg (by omega), if_pos (by omega)]

/-- A piece of the gate. -/
theorem g_piece {s b c : ℕ} (hb : b = 2048 + c) (i0 i1 i2 i5 ie) (y : S256x512.Idx) :
    (k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2)) y : EReal)
      * Ideal.div (Ideal.ofBits .f32 0x3F800000#32) (Ideal.ofBits .f32 0x3F800000#32 + Ideal.exp (Ideal.ofBits .f32 0x00000000#32
        - k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2)) y))
      * broadcastTo S256x512 (shapeCast S1x512 (View.ld x5 (Rect.unit ![0, c] ![1, 512] i5)) shapeCasts_S1x512_S1x512) broadcasts_S1x512_S256x512 y
      = G6 x0 x1 x2 x3 x4 x5 ((Rect.unit (s := S512x3072) ![s, b] ![256, 512] ie).emb y) := by
  have hc : (y 1).val < 512 := (y 1).isLt
  rw [raw_idx x0 x1 x2]
  unfold G6 retv sigm
  rw [(emb2 s b ie y).1, (emb2 s b ie y).2, if_neg (by omega), if_neg (by omega), if_neg (by omega), one_bits, Ideal.ofBits_zero_f32]
  refine congrArg (fun u : EReal => proj (at2 x0 (s + (y 0).val)) (at2 x1 0) (at2 x2) (b + (y 1).val) * Ideal.div 1 (1 + Ideal.exp (0 - proj (at2 x0 (s + (y 0).val)) (at2 x1 0) (at2 x2) (b + (y 1).val))) * u) ?_
  refine (broadcastTo_apply (s := S1x512) (t := S256x512) _ _ y (ix2 0 (y 1)) (by
      intro a; match a with
      | ⟨0, _⟩ => rfl
      | ⟨1, _⟩ => rfl)).trans ?_
  refine (congrFun (shapeCast_self (s := S1x512) (View.ld x5 (Rect.unit ![0, c] ![1, 512] i5)) shapeCasts_S1x512_S1x512) (ix2 0 (y 1))).trans ?_
  refine (at2_of (m := 1) (n := 512) _ (ix2 0 (y 1)) 0 (y 1).val rfl rfl).trans ?_
  refine (at2_ld x5 0 c i5 0 _ (by decide) hc).trans ?_
  rw [show b + (y 1).val - 2048 = c + (y 1).val by omega]

/-- A piece of the attention projection. -/
theorem s_piece {s b c : ℕ} (hb : b = 3072 + c) (i0 i1 i2 ie) (y : S256x256.Idx) :
    k0_pay55 (F := Ideal) (k0_pay4 (F := Ideal) (View.ld x0 (Rect.unit ![s, 0] ![256, 1024] i0)) (View.ld x1 (Rect.unit ![0, 0] ![1, 1024] i1)))
      (View.ld x2 (Rect.unit ![0, b] ![1024, 256] i2)) y
      = G7 x0 x1 x2 ((Rect.unit (s := S512x768) ![s, c] ![256, 256] ie).emb y) := by
  rw [raw256_apply x0 x1 x2]
  unfold G7
  rw [(emb2 s c ie y).1, (emb2 s c ie y).2, hb, Nat.add_assoc]

/-- A piece of the branch gates. -/
theorem b_piece {s b c : ℕ} (hb : b = 3840 + c) (i0 i1 i2 ie) (y : S256x512.Idx) :
    Ideal.div (Ideal.ofBits .f32 0x3F800000#32) (Ideal.ofBits .f32 0x3F800000#32 + Ideal.exp (Ideal.ofBits .f32 0x00000000#32
        - k0_pay8 (F := Ideal) (k0_pay4 (F := Ideal) (View.ld x0 (Rect.unit ![s, 0] ![256, 1024] i0)) (View.ld x1 (Rect.unit ![0, 0] ![1, 1024] i1)))
      (View.ld x2 (Rect.unit ![0, b] ![1024, 512] i2)) y))
      = G8 x0 x1 x2 ((Rect.unit (s := S512x2048) ![s, c] ![256, 512] ie).emb y) := by
  rw [raw_idx x0 x1 x2]
  unfold G8 sigm
  rw [(emb2 s c ie y).1, (emb2 s c ie y).2, one_bits, Ideal.ofBits_zero_f32, hb, Nat.add_assoc]

end Pieces

/-- Every store into output 6 holds the block's values. -/
theorem pieces6 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32) :
    ∀ p ∈ (kernelRun0_A (F := Ideal) c i arg1 harg1 arg2 harg2 arg3 harg3 arg4 harg4 arg5 harg5 arg6 harg6 arg7 harg7 arg8 harg8 arg9 harg9 x0 x1 x2 x3 x4 x5).1, ∀ x, p.2 x = G6 x0 x1 x2 x3 x4 x5 (p.1.emb x) := by
  unfold kernelRun0_A
  dsimp only
  sl_unfold_words
  simp only [View.readAt_eq_ld, harg1.read_unread, harg2.read_unread, harg3.read_unread, harg4.read_unread, harg5.read_unread,
    harg6.read_unread, List.forall_mem_cons]
  refine ⟨?_, ?_, ?_, ?_, ?_, ?_, ?_, ?_, ?_, ?_, ?_, ?_, ?_, ?_, ?_, ?_, ?_, ?_, ?_, ?_, ?_, ?_, ?_, ?_, by intro p hp; exact absurd hp List.not_mem_nil⟩
  · exact g_piece x0 x1 x2 x3 x4 x5 (s := 256) (b := 2560) (c := 512) rfl _ _ _ _ _
  · exact g_piece x0 x1 x2 x3 x4 x5 (s := 0) (b := 2560) (c := 512) rfl _ _ _ _ _
  · exact g_piece x0 x1 x2 x3 x4 x5 (s := 256) (b := 2048) (c := 0) rfl _ _ _ _ _
  · exact g_piece x0 x1 x2 x3 x4 x5 (s := 0) (b := 2048) (c := 0) rfl _ _ _ _ _
  · exact v_piece x0 x1 x2 x3 x4 x5 (s := 256) (b := 1536) (by decide) (by decide) _ _ _ _
  · exact v_piece x0 x1 x2 x3 x4 x5 (s := 0) (b := 1536) (by decide) (by decide) _ _ _ _
  · exact v_piece x0 x1 x2 x3 x4 x5 (s := 256) (b := 1024) (by decide) (by decide) _ _ _ _
  · exact v_piece x0 x1 x2 x3 x4 x5 (s := 0) (b := 1024) (by decide) (by decide) _ _ _ _
  · exact k_piece x0 x1 x2 x3 x4 x5 (s := 256) (o := 384) (h := 3) rfl rfl 896 rfl _ _ _ _ _ _ slices_S256x512_o0_384_S256x128 _ _ nlg_named.2.2.2 rfl
  · exact k_piece x0 x1 x2 x3 x4 x5 (s := 256) (o := 256) (h := 2) rfl rfl 768 rfl _ _ _ _ _ _ slices_S256x512_o0_256_S256x128 _ _ nlg_named.2.2.1 rfl
  · exact k_piece x0 x1 x2 x3 x4 x5 (s := 256) (o := 128) (h := 1) rfl rfl 640 rfl _ _ _ _ _ _ slices_S256x512_o0_128_S256x128 _ _ nlg_named.2.1 rfl
  · exact k_piece x0 x1 x2 x3 x4 x5 (s := 256) (o := 0) (h := 0) rfl rfl 512 rfl _ _ _ _ _ _ slices_S256x512_o0_0_S256x128 _ _ nlg_named.1 rfl
  · exact k_piece x0 x1 x2 x3 x4 x5 (s := 0) (o := 384) (h := 3) rfl rfl 896 rfl _ _ _ _ _ _ slices_S256x512_o0_384_S256x128 _ _ nlg_named.2.2.2 rfl
  · exact k_piece x0 x1 x2 x3 x4 x5 (s := 0) (o := 256) (h := 2) rfl rfl 768 rfl _ _ _ _ _ _ slices_S256x512_o0_256_S256x128 _ _ nlg_named.2.2.1 rfl
  · exact k_piece x0 x1 x2 x3 x4 x5 (s := 0) (o := 128) (h := 1) rfl rfl 640 rfl _ _ _ _ _ _ slices_S256x512_o0_128_S256x128 _ _ nlg_named.2.1 rfl
  · exact k_piece x0 x1 x2 x3 x4 x5 (s := 0) (o := 0) (h := 0) rfl rfl 512 rfl _ _ _ _ _ _ slices_S256x512_o0_0_S256x128 _ _ nlg_named.1 rfl
  · exact q_piece x0 x1 x2 x3 x4 x5 (s := 256) (o := 384) (h := 3) rfl rfl _ _ _ _ _ _ slices_S256x512_o0_384_S256x128 _ _ lg_named.2.2.2 one_bits
  · exact q_piece x0 x1 x2 x3 x4 x5 (s := 256) (o := 256) (h := 2) rfl rfl _ _ _ _ _ _ slices_S256x512_o0_256_S256x128 _ _ lg_named.2.2.1 one_bits
  · exact q_piece x0 x1 x2 x3 x4 x5 (s := 256) (o := 128) (h := 1) rfl rfl _ _ _ _ _ _ slices_S256x512_o0_128_S256x128 _ _ lg_named.2.1 one_bits
  · exact q_piece x0 x1 x2 x3 x4 x5 (s := 256) (o := 0) (h := 0) rfl rfl _ _ _ _ _ _ slices_S256x512_o0_0_S256x128 _ _ lg_named.1 one_bits
  · exact q_piece x0 x1 x2 x3 x4 x5 (s := 0) (o := 384) (h := 3) rfl rfl _ _ _ _ _ _ slices_S256x512_o0_384_S256x128 _ _ lg_named.2.2.2 one_bits
  · exact q_piece x0 x1 x2 x3 x4 x5 (s := 0) (o := 256) (h := 2) rfl rfl _ _ _ _ _ _ slices_S256x512_o0_256_S256x128 _ _ lg_named.2.2.1 one_bits
  · exact q_piece x0 x1 x2 x3 x4 x5 (s := 0) (o := 128) (h := 1) rfl rfl _ _ _ _ _ _ slices_S256x512_o0_128_S256x128 _ _ lg_named.2.1 one_bits
  · exact q_piece x0 x1 x2 x3 x4 x5 (s := 0) (o := 0) (h := 0) rfl rfl _ _ _ _ _ _ slices_S256x512_o0_0_S256x128 _ _ lg_named.1 one_bits

/-- Every store into output 7 holds the block's values. -/
theorem pieces7 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32) :
    ∀ p ∈ (kernelRun0_A (F := Ideal) c i arg1 harg1 arg2 harg2 arg3 harg3 arg4 harg4 arg5 harg5 arg6 harg6 arg7 harg7 arg8 harg8 arg9 harg9 x0 x1 x2 x3 x4 x5).2.1, ∀ x, p.2 x = G7 x0 x1 x2 (p.1.emb x) := by
  unfold kernelRun0_A
  dsimp only
  sl_unfold_words
  simp only [View.readAt_eq_ld, harg1.read_unread, harg2.read_unread, harg3.read_unread, harg4.read_unread, harg5.read_unread,
    harg6.read_unread, List.forall_mem_cons]
  refine ⟨?_, ?_, ?_, ?_, ?_, ?_, by intro p hp; exact absurd hp List.not_mem_nil⟩
  · exact s_piece x0 x1 x2 (s := 256) (c := 512) rfl _ _ _ _
  · exact s_piece x0 x1 x2 (s := 0) (c := 512) rfl _ _ _ _
  · exact s_piece x0 x1 x2 (s := 256) (c := 256) rfl _ _ _ _
  · exact s_piece x0 x1 x2 (s := 0) (c := 256) rfl _ _ _ _
  · exact s_piece x0 x1 x2 (s := 256) (c := 0) rfl _ _ _ _
  · exact s_piece x0 x1 x2 (s := 0) (c := 0) rfl _ _ _ _

/-- Every store into output 8 holds the block's values. -/
theorem pieces8 (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32) :
    ∀ p ∈ (kernelRun0_A (F := Ideal) c i arg1 harg1 arg2 harg2 arg3 harg3 arg4 harg4 arg5 harg5 arg6 harg6 arg7 harg7 arg8 harg8 arg9 harg9 x0 x1 x2 x3 x4 x5).2.2.1, ∀ x, p.2 x = G8 x0 x1 x2 (p.1.emb x) := by
  unfold kernelRun0_A
  dsimp only
  sl_unfold_words
  simp only [View.readAt_eq_ld, harg1.read_unread, harg2.read_unread, harg3.read_unread, harg4.read_unread, harg5.read_unread,
    harg6.read_unread, List.forall_mem_cons]
  refine ⟨?_, ?_, ?_, ?_, ?_, ?_, ?_, ?_, by intro p hp; exact absurd hp List.not_mem_nil⟩
  · exact b_piece x0 x1 x2 (s := 256) (c := 1536) rfl _ _ _ _
  · exact b_piece x0 x1 x2 (s := 0) (c := 1536) rfl _ _ _ _
  · exact b_piece x0 x1 x2 (s := 256) (c := 1024) rfl _ _ _ _
  · exact b_piece x0 x1 x2 (s := 0) (c := 1024) rfl _ _ _ _
  · exact b_piece x0 x1 x2 (s := 256) (c := 512) rfl _ _ _ _
  · exact b_piece x0 x1 x2 (s := 0) (c := 512) rfl _ _ _ _
  · exact b_piece x0 x1 x2 (s := 256) (c := 0) rfl _ _ _ _
  · exact b_piece x0 x1 x2 (s := 0) (c := 0) rfl _ _ _ _

end Cert.Proof.In
-- ==== Proof.InArray.lean ====
module

public import proofs.«01_k».proof.Proof.InPieces
public import Idealize.ShloMosaic.Lib.Pipeline.ValueKit.Point

@[expose] public section

set_option maxRecDepth 16384

noncomputable section

namespace Cert.Proof.In

open Cert.Kernel2Ideal Cert.Kernel2Ideal.Gen
open Idealize.ShloMosaic Idealize.ShloMosaic.ValueIdx Idealize.ShloMosaic.TcCoe
open Idealize.ShloMosaic.Pipeline (Dat)

variable (m : (ℓ : Loc nD τ sig) → Buf (Elt Ideal) ℓ)

/-! ## The block a grid point leaves -/

/-- The block of the retention projection a point leaves is `G6` of its input blocks. -/
theorem out6_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32)
    (y : S512x3072.Idx) : out0_A_6 (F := Ideal) c i arg1 harg1 arg2 harg2 arg3 harg3 arg4 harg4 arg5 harg5 arg6 harg6 arg7 harg7 arg8 harg8 arg9 harg9 x0 x1 x2 x3 x4 x5 y = G6 x0 x1 x2 x3 x4 x5 y := by
  unfold out0_A_6
  rw [View.read_writes_junk_apply_eq_canon]
  exact View.canon_apply_of_pieces (G6 x0 x1 x2 x3 x4 x5) _ (pieces6 c i arg1 harg1 arg2 harg2 arg3 harg3 arg4 harg4 arg5 harg5 arg6 harg6 arg7 harg7 arg8 harg8 arg9 harg9 x0 x1 x2 x3 x4 x5) y (cover0_A_6 c i arg1 harg1 arg2 harg2 arg3 harg3 arg4 harg4 arg5 harg5 arg6 harg6 arg7 harg7 arg8 harg8 arg9 harg9 x0 x1 x2 x3 x4 x5 y)

/-- The block of the attention projection a point leaves is `G7` of its input blocks. -/
theorem out7_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32)
    (y : S512x768.Idx) : out0_A_7 (F := Ideal) c i arg1 harg1 arg2 harg2 arg3 harg3 arg4 harg4 arg5 harg5 arg6 harg6 arg7 harg7 arg8 harg8 arg9 harg9 x0 x1 x2 x3 x4 x5 y = G7 x0 x1 x2 y := by
  unfold out0_A_7
  rw [View.read_writes_junk_apply_eq_canon]
  exact View.canon_apply_of_pieces (G7 x0 x1 x2) _ (pieces7 c i arg1 harg1 arg2 harg2 arg3 harg3 arg4 harg4 arg5 harg5 arg6 harg6 arg7 harg7 arg8 harg8 arg9 harg9 x0 x1 x2 x3 x4 x5) y (cover0_A_7 c i arg1 harg1 arg2 harg2 arg3 harg3 arg4 harg4 arg5 harg5 arg6 harg6 arg7 harg7 arg8 harg8 arg9 harg9 x0 x1 x2 x3 x4 x5 y)

/-- The block of the branch gates a point leaves is `G8` of its input blocks. -/
theorem out8_apply (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x5888 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S1x1024 .f32) (harg6 : arg6.IsWhole) (arg7 : Memref sig .tc .vmem S512x3072 .bf16) (harg7 : arg7.IsWhole) (arg8 : Memref sig .tc .vmem S512x768 .bf16) (harg8 : arg8.IsWhole) (arg9 : Memref sig .tc .vmem S512x2048 .bf16) (harg9 : arg9.IsWhole)
    (x0 : Vec Ideal S512x1024 .f32) (x1 : Vec Ideal S1x1024 .f32) (x2 : Vec Ideal S1024x5888 .bf16) (x3 : Vec Ideal S512x128 .f32) (x4 : Vec Ideal S512x128 .f32) (x5 : Vec Ideal S1x1024 .f32)
    (y : S512x2048.Idx) : out0_A_8 (F := Ideal) c i arg1 harg1 arg2 harg2 arg3 harg3 arg4 harg4 arg5 harg5 arg6 harg6 arg7 harg7 arg8 harg8 arg9 harg9 x0 x1 x2 x3 x4 x5 y = G8 x0 x1 x2 y := by
  unfold out0_A_8
  rw [View.read_writes_junk_apply_eq_canon]
  exact View.canon_apply_of_pieces (G8 x0 x1 x2) _ (pieces8 c i arg1 harg1 arg2 harg2 arg3 harg3 arg4 harg4 arg5 harg5 arg6 harg6 arg7 harg7 arg8 harg8 arg9 harg9 x0 x1 x2 x3 x4 x5) y (cover0_A_8 c i arg1 harg1 arg2 harg2 arg3 harg3 arg4 harg4 arg5 harg5 arg6 harg6 arg7 harg7 arg8 harg8 arg9 harg9 x0 x1 x2 x3 x4 x5 y)

/-! ## The input blocks as rows of their arrays -/

/-- Where the blocks of the row windows lie: point `t` takes row block `t`. -/
theorem idx_row : ∀ t : Fin cfg0.N, win0_0.index t = ![t.val, 0] ∧ win0_6.index t = ![t.val, 0]
    ∧ win0_7.index t = ![t.val, 0] ∧ win0_8.index t = ![t.val, 0] ∧ win0_3.index t = ![t.val % 16, 0]
    ∧ win0_4.index t = ![t.val % 16, 0] ∧ win0_1.index t = ![0, 0] ∧ win0_2.index t = ![0, 0] ∧ win0_5.index t = ![0, 0] :=
  (by decide +kernel : ∀ t : Fin grid0.N, _)

/-- Row `r` of point `t`'s block of input 0. -/
theorem blk0 (c : Dev nD) (t : Fin cfg0.N) (r : ℕ) (hr : r < 512) (k : ℕ) :
    at2 (m := 512) (n := 1024) (iblk m c 0 t) r k = at2 (m := 32768) (n := 1024) (V m c main_v49) (512 * t.val + r) k := by
  have ht : t.val < 64 := lt_of_lt_of_eq t.isLt N_0
  by_cases hk : k < 1024
  · have e := (idx_row t).1
    rw [← at2_of (m := 512) (n := 1024) (iblk m c 0 t) (ValueIdx.ix2 ⟨r, hr⟩ ⟨k, hk⟩) r k rfl rfl,
      ← at2_of (m := 32768) (n := 1024) (V m c main_v49) (ValueIdx.ix2 ⟨(512 * t.val + r), by omega⟩ ⟨k, hk⟩) (512 * t.val + r) k rfl rfl]
    blk_simp [iblk]
    refine congrArg (V m c main_v49) ?_
    blk_ext [e]
  · unfold at2
    rw [dif_neg (fun h => hk h.2), dif_neg (fun h => hk h.2)]

/-- Row `r` of point `t`'s block of input 1. -/
theorem blk1 (c : Dev nD) (t : Fin cfg0.N) (r : ℕ) (hr : r < 1) (k : ℕ) :
    at2 (m := 1) (n := 1024) (iblk m c 1 t) r k = at2 (m := 1) (n := 1024) (V m c main_v51) r k := by
  have ht : t.val < 64 := lt_of_lt_of_eq t.isLt N_0
  by_cases hk : k < 1024
  · have e := (idx_row t).2.2.2.2.2.2.1
    rw [← at2_of (m := 1) (n := 1024) (iblk m c 1 t) (ValueIdx.ix2 ⟨r, hr⟩ ⟨k, hk⟩) r k rfl rfl,
      ← at2_of (m := 1) (n := 1024) (V m c main_v51) (ValueIdx.ix2 ⟨r, by omega⟩ ⟨k, hk⟩) r k rfl rfl]
    blk_simp [iblk]
    refine congrArg (V m c main_v51) ?_
    blk_ext [e]
  · unfold at2
    rw [dif_neg (fun h => hk h.2), dif_neg (fun h => hk h.2)]

/-- Row `r` of point `t`'s block of input 2. -/
theorem blk2 (c : Dev nD) (t : Fin cfg0.N) (r : ℕ) (hr : r < 1024) (k : ℕ) :
    at2 (m := 1024) (n := 5888) (iblk m c 2 t) r k = at2 (m := 1024) (n := 5888) (V m c main_v53) r k := by
  have ht : t.val < 64 := lt_of_lt_of_eq t.isLt N_0
  by_cases hk : k < 5888
  · have e := (idx_row t).2.2.2.2.2.2.2.1
    rw [← at2_of (m := 1024) (n := 5888) (iblk m c 2 t) (ValueIdx.ix2 ⟨r, hr⟩ ⟨k, hk⟩) r k rfl rfl,
      ← at2_of (m := 1024) (n := 5888) (V m c main_v53) (ValueIdx.ix2 ⟨r, by omega⟩ ⟨k, hk⟩) r k rfl rfl]
    blk_simp [iblk]
    refine congrArg (V m c main_v53) ?_
    blk_ext [e]
  · unfold at2
    rw [dif_neg (fun h => hk h.2), dif_neg (fun h => hk h.2)]

/-- Row `r` of point `t`'s block of input 3. -/
theorem blk3 (c : Dev nD) (t : Fin cfg0.N) (r : ℕ) (hr : r < 512) (k : ℕ) :
    at2 (m := 512) (n := 128) (iblk m c 3 t) r k = at2 (m := 8192) (n := 128) (V m c main_v46) ((512 * t.val + r) % 8192) k := by
  have ht : t.val < 64 := lt_of_lt_of_eq t.isLt N_0
  by_cases hk : k < 128
  · have e := (idx_row t).2.2.2.2.1
    rw [← at2_of (m := 512) (n := 128) (iblk m c 3 t) (ValueIdx.ix2 ⟨r, hr⟩ ⟨k, hk⟩) r k rfl rfl,
      ← at2_of (m := 8192) (n := 128) (V m c main_v46) (ValueIdx.ix2 ⟨((512 * t.val + r) % 8192), by omega⟩ ⟨k, hk⟩) ((512 * t.val + r) % 8192) k rfl rfl]
    blk_simp [iblk]
    refine congrArg (V m c main_v46) ?_
    blk_ext [e]
  · unfold at2
    rw [dif_neg (fun h => hk h.2), dif_neg (fun h => hk h.2)]

/-- Row `r` of point `t`'s block of input 4. -/
theorem blk4 (c : Dev nD) (t : Fin cfg0.N) (r : ℕ) (hr : r < 512) (k : ℕ) :
    at2 (m := 512) (n := 128) (iblk m c 4 t) r k = at2 (m := 8192) (n := 128) (V m c main_v48) ((512 * t.val + r) % 8192) k := by
  have ht : t.val < 64 := lt_of_lt_of_eq t.isLt N_0
  by_cases hk : k < 128
  · have e := (idx_row t).2.2.2.2.2.1
    rw [← at2_of (m := 512) (n := 128) (iblk m c 4 t) (ValueIdx.ix2 ⟨r, hr⟩ ⟨k, hk⟩) r k rfl rfl,
      ← at2_of (m := 8192) (n := 128) (V m c main_v48) (ValueIdx.ix2 ⟨((512 * t.val + r) % 8192), by omega⟩ ⟨k, hk⟩) ((512 * t.val + r) % 8192) k rfl rfl]
    blk_simp [iblk]
    refine congrArg (V m c main_v48) ?_
    blk_ext [e]
  · unfold at2
    rw [dif_neg (fun h => hk h.2), dif_neg (fun h => hk h.2)]

/-- Row `r` of point `t`'s block of input 5. -/
theorem blk5 (c : Dev nD) (t : Fin cfg0.N) (r : ℕ) (hr : r < 1) (k : ℕ) :
    at2 (m := 1) (n := 1024) (iblk m c 5 t) r k = at2 (m := 1) (n := 1024) (V m c main_v55) r k := by
  have ht : t.val < 64 := lt_of_lt_of_eq t.isLt N_0
  by_cases hk : k < 1024
  · have e := (idx_row t).2.2.2.2.2.2.2.2
    rw [← at2_of (m := 1) (n := 1024) (iblk m c 5 t) (ValueIdx.ix2 ⟨r, hr⟩ ⟨k, hk⟩) r k rfl rfl,
      ← at2_of (m := 1) (n := 1024) (V m c main_v55) (ValueIdx.ix2 ⟨r, by omega⟩ ⟨k, hk⟩) r k rfl rfl]
    blk_simp [iblk]
    refine congrArg (V m c main_v55) ?_
    blk_ext [e]
  · unfold at2
    rw [dif_neg (fun h => hk h.2), dif_neg (fun h => hk h.2)]

/-! ## The output arrays -/

/-- The retention projection the call leaves, row `i 0` and column `i 1`, from the prepared arrays. -/
def A6 (c : Dev nD) (i : S32768x3072.Idx) : EReal :=
  retv (at2 (m := 32768) (n := 1024) (V m c main_v49) (i 0).val) (at2 (m := 1) (n := 1024) (V m c main_v51) 0)
    (at2 (m := 1024) (n := 5888) (V m c main_v53))
    (at2 (m := 8192) (n := 128) (V m c main_v46) ((i 0).val % 8192)) (at2 (m := 8192) (n := 128) (V m c main_v48) ((i 0).val % 8192))
    (at2 (m := 1) (n := 1024) (V m c main_v55) 0) (i 0).val (i 1).val

/-- The projection of a row, from the prepared arrays. -/
def P (c : Dev nD) (r k : ℕ) : EReal :=
  proj (at2 (m := 32768) (n := 1024) (V m c main_v49) r) (at2 (m := 1) (n := 1024) (V m c main_v51) 0)
    (at2 (m := 1024) (n := 5888) (V m c main_v53)) k

/-- The attention projection the call leaves. -/
def A7 (c : Dev nD) (i : S32768x768.Idx) : EReal := P m c (i 0).val (3072 + (i 1).val)

/-- The branch gates the call leaves. -/
def A8 (c : Dev nD) (i : S32768x2048.Idx) : EReal := sigm (P m c (i 0).val (3840 + (i 1).val))

/-- The blocks' weights are the whole weight. -/
theorem blk2_fun (c : Dev nD) (t : Fin cfg0.N) :
    at2 (m := 1024) (n := 5888) (iblk m c 2 t) = at2 (m := 1024) (n := 5888) (V m c main_v53) := by
  funext r k
  by_cases hr : r < 1024
  · exact blk2 m c t r hr k
  · unfold at2
    rw [dif_neg (fun h => hr h.1), dif_neg (fun h => hr h.1)]

/-- The position inside a chunk does not see the block's offset. -/
theorem dec_add (l s : EReal) (t r : ℕ) : dec l s (512 * t + r) = dec l s r := by
  unfold dec
  rw [show (512 * t + r) % 128 = r % 128 by omega]

/-- The retention projection of a row depends on its position inside the chunk only. -/
theorem retv_add (x g : ℕ → EReal) (w : ℕ → ℕ → EReal) (cs sn gn : ℕ → EReal) (t r c : ℕ) :
    retv x g w cs sn gn (512 * t + r) c = retv x g w cs sn gn r c := by
  unfold retv
  rw [dec_add, dec_add]

/-- The array of the retention projection when the call ends. -/
theorem arr6 (c : Dev nD) : (dats m 0 c).arrAt 6 cfg0.N = A6 m c := by
  refine (dats m 0 c).arrAt_eq_of_covers 6 _ (by decide +kernel) fun t hf y => ?_
  have ht : t.val < 64 := lt_of_lt_of_eq t.isLt N_0
  have e := idx_row t
  refine (congrFun (Value.flushed6_A m c t) y).trans ?_
  refine (out6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y).trans ?_
  have h0 : (((cfg0.win 6).blk t).view.emb y 0 : ℕ) = 512 * t.val + (y 0).val := by
    blk_simp [e.2.1]
    omega
  have h1 : (((cfg0.win 6).blk t).view.emb y 1 : ℕ) = (y 1).val := by
    blk_simp [e.2.1]
  have hy : (y 0).val < 512 := (y 0).isLt
  unfold G6 A6
  rw [h0, h1, retv_add, blk2_fun, funext (blk0 m c t (y 0).val hy), funext (blk1 m c t 0 (by omega)),
    funext (blk3 m c t (y 0).val hy), funext (blk4 m c t (y 0).val hy), funext (blk5 m c t 0 (by omega))]

/-- The array of the attention projection when the call ends. -/
theorem arr7 (c : Dev nD) : (dats m 0 c).arrAt 7 cfg0.N = A7 m c := by
  refine (dats m 0 c).arrAt_eq_of_covers 7 _ (by decide +kernel) fun t hf y => ?_
  have ht : t.val < 64 := lt_of_lt_of_eq t.isLt N_0
  have e := idx_row t
  refine (congrFun (Value.flushed7_A m c t) y).trans ?_
  refine (out7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y).trans ?_
  have h0 : (((cfg0.win 7).blk t).view.emb y 0 : ℕ) = 512 * t.val + (y 0).val := by
    blk_simp [e.2.2.1]
    omega
  have h1 : (((cfg0.win 7).blk t).view.emb y 1 : ℕ) = (y 1).val := by
    blk_simp [e.2.2.1]
  have hy : (y 0).val < 512 := (y 0).isLt
  unfold G7 A7 P
  rw [h0, h1, blk2_fun, funext (blk0 m c t (y 0).val hy), funext (blk1 m c t 0 (by omega))]

/-- The array of the branch gates when the call ends. -/
theorem arr8 (c : Dev nD) : (dats m 0 c).arrAt 8 cfg0.N = A8 m c := by
  refine (dats m 0 c).arrAt_eq_of_covers 8 _ (by decide +kernel) fun t hf y => ?_
  have ht : t.val < 64 := lt_of_lt_of_eq t.isLt N_0
  have e := idx_row t
  refine (congrFun (Value.flushed8_A m c t) y).trans ?_
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) y).trans ?_
  have h0 : (((cfg0.win 8).blk t).view.emb y 0 : ℕ) = 512 * t.val + (y 0).val := by
    blk_simp [e.2.2.2.1]
    omega
  have h1 : (((cfg0.win 8).blk t).view.emb y 1 : ℕ) = (y 1).val := by
    blk_simp [e.2.2.2.1]
  have hy : (y 0).val < 512 := (y 0).isLt
  unfold G8 A8 P
  rw [h0, h1, blk2_fun, funext (blk0 m c t (y 0).val hy), funext (blk1 m c t 0 (by omega))]

end Cert.Proof.In
-- ==== Proof.InHost.lean ====
module

public import proofs.«01_k».proof.Proof.InArray

@[expose] public section

set_option maxRecDepth 16384

noncomputable section

namespace Cert.Proof.In

open Cert.Kernel2Ideal Cert.Kernel2Ideal.Gen
open Idealize.ShloMosaic Idealize.ShloMosaic.ValueIdx Idealize.ShloMosaic.TcCoe

/-! ## The rotary angles -/

/-- A small natural number converted to a float is that number. -/
theorem sit (n : ℕ) (h : n < 2 ^ 31) :
    (FloatOps.sitofp (F := Ideal) .f32 (BitVec.ofNat 32 n) : EReal) = ((n : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat]
    omega
  rw [e]
  norm_cast

/-- The inverse frequency of lane `j`: ten thousand to the power minus `j / 64`. -/
def inv (j : ℕ) : EReal :=
  Ideal.pow (Ideal.ofBits .f32 0x461C4000#32)
    (Ideal.div (-FloatOps.sitofp (F := Ideal) .f32 (BitVec.ofNat 32 j)) (Ideal.ofBits .f32 0x42800000#32))

/-- The base of the frequencies. -/
theorem base_bits : (Ideal.ofBits .f32 0x461C4000#32 : EReal) = ((10000 : ℝ) : EReal) := by
  simp [Ideal.ofBits, Ideal.ieee, -EReal.coe_mul]; norm_num

/-- The number of frequencies. -/
theorem lanes_bits : (Ideal.ofBits .f32 0x42800000#32 : EReal) = ((64 : ℝ) : EReal) := by
  simp [Ideal.ofBits, Ideal.ieee, -EReal.coe_mul]; norm_num

/-- Division of reals by a real other than zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- An inverse frequency is a real number. -/
theorem inv_real (j : ℕ) (hj : j < 64) : ∃ x : ℝ, inv j = (x : EReal) := by
  refine ⟨Real.rpow 10000 (-(j : ℝ) / 64), ?_⟩
  unfold inv
  rw [sit j (by omega), base_bits, lanes_bits, ← EReal.coe_neg, div_coe _ _ (by norm_num)]
  rfl

/-- The cosine at position `n` of lane `j`. -/
def cosT (n j : ℕ) : EReal := Ideal.cos (((n : ℝ) : EReal) * inv j)

/-- The sine at position `n` of lane `j`. -/
def sinT (n j : ℕ) : EReal := Ideal.sin (((n : ℝ) : EReal) * inv j)

/-- The cosine of a sum of two positions. -/
theorem cosT_add (a b j : ℕ) (hj : j < 64) : cosT a j * cosT b j - sinT a j * sinT b j = cosT (a + b) j := by
  obtain ⟨x, hx⟩ := inv_real j hj
  unfold cosT sinT
  rw [hx, ← EReal.coe_mul, ← EReal.coe_mul, ← EReal.coe_mul]
  show ((Real.cos (a * x) : ℝ) : EReal) * ((Real.cos (b * x) : ℝ) : EReal)
    - ((Real.sin (a * x) : ℝ) : EReal) * ((Real.sin (b * x) : ℝ) : EReal) = ((Real.cos (((a + b : ℕ) : ℝ) * x) : ℝ) : EReal)
  rw [← EReal.coe_mul, ← EReal.coe_mul, ← EReal.coe_sub, Nat.cast_add, add_mul, Real.cos_add]

/-- The sine of a sum of two positions. -/
theorem sinT_add (a b j : ℕ) (hj : j < 64) : sinT a j * cosT b j + cosT a j * sinT b j = sinT (a + b) j := by
  obtain ⟨x, hx⟩ := inv_real j hj
  unfold cosT sinT
  rw [hx, ← EReal.coe_mul, ← EReal.coe_mul, ← EReal.coe_mul]
  show ((Real.sin (a * x) : ℝ) : EReal) * ((Real.cos (b * x) : ℝ) : EReal)
    + ((Real.cos (a * x) : ℝ) : EReal) * ((Real.sin (b * x) : ℝ) : EReal) = ((Real.sin (((a + b : ℕ) : ℝ) * x) : ℝ) : EReal)
  rw [← EReal.coe_mul, ← EReal.coe_mul, ← EReal.coe_add, Nat.cast_add, add_mul, Real.sin_add]

/-- The chunk offset as the program computes it. -/
theorem sit_mul (a : ℕ) (h : a < 64) :
    (FloatOps.sitofp (F := Ideal) .f32 (IntOp.muli (BitVec.ofNat 32 a) 128#32) : EReal) = (((a * 128 : ℕ) : ℝ) : EReal) := by
  rw [← sit (a * 128) (by omega)]
  refine congrArg _ ?_
  show BitVec.ofNat 32 a * 128#32 = _
  rw [BitVec.ofNat_mul]

/-- The kernel's cosine of position `r`, lane `j`. -/
theorem cos_split (r j : ℕ) (hr : r < 8192) (hj : j < 64) :
    Ideal.cos (FloatOps.sitofp (F := Ideal) .f32 (IntOp.muli (BitVec.ofNat 32 (r / 128)) 128#32) * inv j)
        * Ideal.cos (FloatOps.sitofp (F := Ideal) .f32 (BitVec.ofNat 32 (r % 128)) * inv j)
      - Ideal.sin (FloatOps.sitofp (F := Ideal) .f32 (IntOp.muli (BitVec.ofNat 32 (r / 128)) 128#32) * inv j)
        * Ideal.sin (FloatOps.sitofp (F := Ideal) .f32 (BitVec.ofNat 32 (r % 128)) * inv j) = cosT r j := by
  rw [sit_mul _ (by omega), sit _ (by omega)]
  refine (cosT_add (r / 128 * 128) (r % 128) j hj).trans ?_
  rw [show r / 128 * 128 + r % 128 = r by omega]

/-- The kernel's sine of position `r`, lane `j`. -/
theorem sin_split (r j : ℕ) (hr : r < 8192) (hj : j < 64) :
    Ideal.sin (FloatOps.sitofp (F := Ideal) .f32 (IntOp.muli (BitVec.ofNat 32 (r / 128)) 128#32) * inv j)
        * Ideal.cos (FloatOps.sitofp (F := Ideal) .f32 (BitVec.ofNat 32 (r % 128)) * inv j)
      + Ideal.cos (FloatOps.sitofp (F := Ideal) .f32 (IntOp.muli (BitVec.ofNat 32 (r / 128)) 128#32) * inv j)
        * Ideal.sin (FloatOps.sitofp (F := Ideal) .f32 (BitVec.ofNat 32 (r % 128)) * inv j) = sinT r j := by
  rw [sit_mul _ (by omega), sit _ (by omega)]
  refine (sinT_add (r / 128 * 128) (r % 128) j hj).trans ?_
  rw [show r / 128 * 128 + r % 128 = r by omega]

/-! ## The arguments read at natural numbers -/

/-- A three-dimensional array read at natural numbers: its entry there, zero outside. -/
def at3 {l m n : ℕ} (v : (⟨3, ![l, m, n]⟩ : Shape).Idx → EReal) (h i j : ℕ) : EReal :=
  if p : h < l ∧ i < m ∧ j < n then v (ValueIdx.ix3 ⟨h, p.1⟩ ⟨i, p.2.1⟩ ⟨j, p.2.2⟩) else 0

/-- An array at an index is its reading at the index's coordinates. -/
theorem at3_of {l m n : ℕ} (v : (⟨3, ![l, m, n]⟩ : Shape).Idx → EReal) (y : (⟨3, ![l, m, n]⟩ : Shape).Idx) (h i j : ℕ)
    (hh : (y 0).val = h) (hi : (y 1).val = i) (hj : (y 2).val = j) : v y = at3 v h i j := by
  subst hh hi hj
  have h0 : (y 0).val < l := (y 0).isLt
  have h1 : (y 1).val < m := (y 1).isLt
  have h2 : (y 2).val < n := (y 2).isLt
  unfold at3
  rw [dif_pos ⟨h0, h1, h2⟩]
  exact congrArg v (ValueIdx.eq_ix3 y)

/-! ## What the call's prepared arrays hold -/

variable (m : (ℓ : Loc nD τ sig) → Buf (Elt Ideal) ℓ)

/-- The rows handed to the call are the rows of the input. -/
theorem host49 (c : Dev nD) (r k : ℕ) (hr : r < 32768) (hk : k < 1024) :
    at2 (m := 32768) (n := 1024) (V m c main_v49) r k
      = at3 (l := 4) (m := 8192) (n := 1024) (m ((c : Thread nD τ).loc main_arg0)) (r / 8192) (r % 8192) k := by
  rw [← at2_of (m := 32768) (n := 1024) (V m c main_v49) (ValueIdx.ix2 ⟨r, hr⟩ ⟨k, hk⟩) r k rfl rfl]
  entry_read
  pointwise
  exact at3_of (l := 4) (m := 8192) (n := 1024) _ _ _ _ _ rfl rfl rfl

/-- The gain handed to the call. -/
theorem host51 (c : Dev nD) (k : ℕ) (hk : k < 1024) :
    at2 (m := 1) (n := 1024) (V m c main_v51) 0 k
      = at2 (m := 1) (n := 1024) (m ((c : Thread nD τ).loc main_arg1)) 0 k := by
  rw [← at2_of (m := 1) (n := 1024) (V m c main_v51) (ValueIdx.ix2 ⟨0, by omega⟩ ⟨k, hk⟩) 0 k rfl rfl]
  entry_read
  pointwise
  exact at2_of (m := 1) (n := 1024) _ _ _ _ rfl rfl

/-- The weight handed to the call. -/
theorem host53 (c : Dev nD) (r k : ℕ) (hr : r < 1024) (hk : k < 5888) :
    at2 (m := 1024) (n := 5888) (V m c main_v53) r k
      = at3 (l := 1) (m := 1024) (n := 5888) (m ((c : Thread nD τ).loc main_arg2)) 0 r k := by
  rw [← at2_of (m := 1024) (n := 5888) (V m c main_v53) (ValueIdx.ix2 ⟨r, hr⟩ ⟨k, hk⟩) r k rfl rfl]
  entry_read
  pointwise
  exact at3_of (l := 1) (m := 1024) (n := 5888) _ _ _ _ _ rfl rfl rfl

/-- The group norm's gain handed to the call. -/
theorem host55 (c : Dev nD) (k : ℕ) (hk : k < 1024) :
    at2 (m := 1) (n := 1024) (V m c main_v55) 0 k
      = at3 (l := 1) (m := 4) (n := 256) (m ((c : Thread nD τ).loc main_arg3)) 0 (k / 256) (k % 256) := by
  rw [← at2_of (m := 1) (n := 1024) (V m c main_v55) (ValueIdx.ix2 ⟨0, by omega⟩ ⟨k, hk⟩) 0 k rfl rfl]
  entry_read
  pointwise
  exact at3_of (l := 1) (m := 4) (n := 256) _ _ _ _ _ rfl rfl rfl

/-- The cosine table handed to the call. -/
theorem host46 (c : Dev nD) (r k : ℕ) (hr : r < 8192) (hk : k < 128) :
    at2 (m := 8192) (n := 128) (V m c main_v46) r k = cosT r (k % 64) := by
  rw [← at2_of (m := 8192) (n := 128) (V m c main_v46) (ValueIdx.ix2 ⟨r, hr⟩ ⟨k, hk⟩) r k rfl rfl]
  entry_read
  pointwise
  split
  · next h =>
    rw [show k % 64 = k by omega]
    exact cos_split r k hr h
  · next h =>
    rw [show k % 64 = k - 64 by omega]
    exact cos_split r (k - 64) hr (by omega)

/-- The signed sine table handed to the call. -/
theorem host48 (c : Dev nD) (r k : ℕ) (hr : r < 8192) (hk : k < 128) :
    at2 (m := 8192) (n := 128) (V m c main_v48) r k = if k < 64 then -sinT r k else sinT r (k - 64) := by
  rw [← at2_of (m := 8192) (n := 128) (V m c main_v48) (ValueIdx.ix2 ⟨r, hr⟩ ⟨k, hk⟩) r k rfl rfl]
  entry_read
  pointwise
  split
  · next h => exact congrArg (fun u : EReal => -u) (sin_split r k hr h)
  · next h => exact sin_split r (k - 64) hr (by omega)

end Cert.Proof.In
-- ==== Proof.InRef.lean ====
module

public import proofs.«01_k».proof.Proof.InHost
public import proofs.«01_k».proof.Proof.Gen.Reference2Ideal.Read
public import Idealize.ShloMosaic.Lib.IdealHost

@[expose] public section

set_option maxRecDepth 16384
set_option maxHeartbeats 2000000

noncomputable section

namespace Cert.Proof.In

open Cert.Reference2Ideal Cert.Reference2Ideal.Read
open Idealize.ShloMosaic Idealize.ShloMosaic.TcCoe

variable (x0 : (⟨S4x8192x1024, .f32⟩ : BufTy).Contents (Elt Ideal)) (x1 : (⟨S1x1024, .f32⟩ : BufTy).Contents (Elt Ideal))
  (x2 : (⟨S1x1024x5888, .f32⟩ : BufTy).Contents (Elt Ideal)) (x3 : (⟨S1x4x256, .f32⟩ : BufTy).Contents (Elt Ideal))

/-- The projection of position `s` of sequence `b`, from the arguments. -/
def pr (b s c : ℕ) : EReal :=
  proj (at3 (l := 4) (m := 8192) (n := 1024) x0 b s) (at2 (m := 1) (n := 1024) x1 0)
    (at3 (l := 1) (m := 1024) (n := 5888) x2 0) c

/-! ## The reference's stages -/

/-- The reference's projection. -/
theorem ref15 (b s c : ℕ) (hb : b < 4) (hs : s < 8192) (hc : c < 5888) :
    val_main_v15 (F := Ideal) x0 x1 x2 (Idealize.ShloMosaic.ix3 ⟨b, hb⟩ ⟨s, hs⟩ ⟨c, hc⟩) = pr x0 x1 x2 b s c := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  unfold pr proj nrm
  have e0 : ∀ k : Fin 1024, x0 (Idealize.ShloMosaic.ix3 ⟨b, hb⟩ ⟨s, hs⟩ k)
      = at3 (l := 4) (m := 8192) (n := 1024) x0 b s k.val :=
    fun k => at3_of (l := 4) (m := 8192) (n := 1024) x0 _ _ _ _ rfl rfl rfl
  refine Finset.sum_congr rfl fun k _ => ?_
  rw [← at3_of (l := 1) (m := 1024) (n := 5888) x2 (Idealize.ShloMosaic.ix3 0 k ⟨c, hc⟩) 0 k.val c rfl rfl rfl,
    ← at2_of (m := 1) (n := 1024) x1 (Idealize.ShloMosaic.ix2 0 k) 0 k.val rfl rfl, ← e0 k,
    ← Finset.sum_congr rfl fun a _ => congrArg₂ (· * ·) (e0 a) (e0 a)]

attribute [local irreducible] val_main_v15

/-- The reference's position inside its chunk, counted from one. -/
theorem ref36 (n : ℕ) (hn : n < 8192) :
    val_main_v36 (F := Ideal) (Idealize.ShloMosaic.ix1 ⟨n, hn⟩) = BitVec.ofNat 32 (n % 128 + 1) := by
  have h : ∀ n : Fin 8192, val_main_v36 (F := Ideal) (Idealize.ShloMosaic.ix1 n) = BitVec.ofNat 32 (n.val % 128 + 1) := by
    intro n
    pointwise [val_main_v36, val_main_v35, val_main_v34, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_v14, val_main_call0_c, val_main_call0_c_0, val_main_call0_c_1, val_main_call0_c_2, val_main_call0_c_3, val_main_v25, val_main_c, val_main_c_4]
    revert n
    decide +kernel
  exact h ⟨n, hn⟩

/-- The pattern of two. -/
theorem two_bits : (Ideal.ofBits .f32 0x40000000#32 : EReal) = ((2 : ℝ) : EReal) := by
  simp [Ideal.ofBits, Ideal.ieee, -EReal.coe_mul]; norm_num

/-- The pattern of minus five. -/
theorem five_bits : (Ideal.ofBits .f32 0xC0A00000#32 : EReal) = ((-5 : ℝ) : EReal) := by
  simp [Ideal.ofBits, Ideal.ieee, -EReal.coe_mul, -EReal.coe_neg]; norm_num

/-- The reference's logarithm of head `h`'s decay. -/
theorem ref_lg (h : ℕ) (hh : h < 4) :
    Ideal.log1p (-Ideal.pow (Ideal.ofBits .f32 0x40000000#32)
      (Ideal.ofBits .f32 0xC0A00000#32 - FloatOps.sitofp (F := Ideal) .f32 (BitVec.ofNat 32 h))) = lgc h := by
  rw [sit h (by omega), two_bits, five_bits, ← EReal.coe_sub]
  show Ideal.log (1 + -((Real.rpow 2 (-5 - (h : ℝ)) : ℝ) : EReal)) = _
  have e : Real.rpow 2 (-5 - (h : ℝ)) = 1 / 2 ^ (5 + h) := by
    show (2 : ℝ) ^ (-5 - (h : ℝ)) = _
    rw [show (-5 - (h : ℝ)) = -((5 + h : ℕ) : ℝ) by push_cast; ring, Real.rpow_neg (by norm_num), Real.rpow_natCast, one_div]
  rw [e, ← EReal.coe_neg, show (1 : EReal) = ((1 : ℝ) : EReal) by norm_cast, ← EReal.coe_add]
  have p : (0 : ℝ) < 2 ^ (5 + h) := by positivity
  have q : (1 : ℝ) < 2 ^ (5 + h) := one_lt_pow₀ (by norm_num) (by omega)
  have r : (1 : ℝ) + -(1 / 2 ^ (5 + h)) = (2 ^ (5 + h) - 1) / 2 ^ (5 + h) := by
    rw [sub_div, div_self p.ne', sub_eq_add_neg]
  rw [r]
  have s : (0 : ℝ) < (2 ^ (5 + h) - 1) / 2 ^ (5 + h) := div_pos (by linarith) p
  show (if _ then _ else _) = _
  rw [if_neg (not_le.mpr s)]
  rfl

/-- The reference's growth factor. -/
theorem ref43 (n h : ℕ) (hn : n < 8192) (hh : h < 4) :
    val_main_v43 (F := Ideal) (Idealize.ShloMosaic.ix2 ⟨n, hn⟩ ⟨h, hh⟩)
      = Ideal.exp (lgc h * (((n % 128 + 1 : ℕ) : ℝ) : EReal)) := by
  pointwise [val_main_v43, val_main_v42, val_main_v41, val_main_v40, val_main_v39, val_main_v38, val_main_v37, val_main_v33, val_main_v32, val_main_v31, val_main_v30, val_main_v29, val_main_v28, val_main_v27, val_main_v26, val_main_cst_2, val_main_cst_3]
  rw [ref36 n hn, sit (n % 128 + 1) (by omega)]
  exact congrArg (fun u : EReal => Ideal.exp (u * (((n % 128 + 1 : ℕ) : ℝ) : EReal))) (ref_lg h hh)

/-- The rotary embedding as the reference applies it. -/
def rrot (p : ℕ → EReal) (s h k : ℕ) : EReal :=
  if k < 64 then p (h * 128 + k) * cosT s k - p (h * 128 + (64 + k)) * sinT s k
  else p (h * 128 + (k - 64)) * sinT s (k - 64) + p (h * 128 + (64 + (k - 64))) * cosT s (k - 64)

/-- The reference's queries before their decay. -/
theorem ref75 (b s h k : ℕ) (hb : b < 4) (hs : s < 8192) (hh : h < 4) (hk : k < 128) :
    val_main_v75 (F := Ideal) x0 x1 x2 (Idealize.ShloMosaic.ix4 ⟨b, hb⟩ ⟨s, hs⟩ ⟨h, hh⟩ ⟨k, hk⟩)
      = rrot (pr x0 x1 x2 b s) s h k := by
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v16, val_main_v25, val_main_cst_5, val_main_cst_6]
  unfold rrot
  simp only [sit s (by omega)]
  split
  · rw [ref15, ref15]
    rfl
  · rw [ref15, ref15]
    rfl

/-- The reference's keys before scale and decay. -/
theorem ref108 (b s h k : ℕ) (hb : b < 4) (hs : s < 8192) (hh : h < 4) (hk : k < 128) :
    val_main_v108 (F := Ideal) x0 x1 x2 (Idealize.ShloMosaic.ix4 ⟨b, hb⟩ ⟨s, hs⟩ ⟨h, hh⟩ ⟨k, hk⟩)
      = rrot (fun c => pr x0 x1 x2 b s (512 + c)) s h k := by
  pointwise [val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v17, val_main_v25, val_main_cst_7, val_main_cst_8]
  unfold rrot
  simp only [sit s (by omega)]
  split
  · rw [ref15, ref15]
    rfl
  · rw [ref15, ref15]
    rfl

attribute [local irreducible] val_main_v75 val_main_v108 val_main_v43

/-- One row of the reference's retention projection. -/
def rret (b s c : ℕ) : EReal :=
  if c < 512 then rrot (pr x0 x1 x2 b s) s (c / 128) (c % 128) * Ideal.exp (lgc (c / 128) * (((s % 128 + 1 : ℕ) : ℝ) : EReal))
  else if c - 512 < 512 then
    Ideal.div (rrot (fun c => pr x0 x1 x2 b s (512 + c)) s ((c - 512) / 128) ((c - 512) % 128) * Ideal.ofBits .f32 0x3DB504F3#32)
      (Ideal.exp (lgc ((c - 512) / 128) * (((s % 128 + 1 : ℕ) : ℝ) : EReal)))
  else if c - 512 - 512 < 1024 then pr x0 x1 x2 b s (1024 + (c - 512 - 512))
  else pr x0 x1 x2 b s (2048 + (c - 512 - 512 - 1024)) * Ideal.div 1 (1 + Ideal.exp (-pr x0 x1 x2 b s (2048 + (c - 512 - 512 - 1024))))
    * at3 (l := 1) (m := 4) (n := 256) x3 0 ((c - 512 - 512 - 1024) / 256) ((c - 512 - 512 - 1024) % 256)

/-- The reference's first result. -/
theorem ref139 (r c : ℕ) (hr : r < 32768) (hc : c < 3072) :
    val_main_v139 (F := Ideal) x0 x1 x2 x3 (ValueIdx.ix2 ⟨r, hr⟩ ⟨c, hc⟩) = rret x0 x1 x2 x3 (r / 8192) (r % 8192) c := by
  pointwise [val_main_v122, val_main_v121, val_main_v120, val_main_v119, val_main_v118, val_main_v117, val_main_v116, val_main_v115, val_main_v114, val_main_v113, val_main_v112, val_main_v111, val_main_v110, val_main_v109, val_main_v139, val_main_v76, val_main_v77, val_main_v44, val_main_cst_9, val_main_call1_v0, val_main_call1_v1, val_main_call1_v2, val_main_call1_v3, val_main_call1_v4, val_main_call1_v5, val_main_call1_cst, val_main_call1_cst_0, val_main_v18, val_main_v19]
  unfold rret
  have hb : r / 8192 < 4 := by omega
  have hs : r % 8192 < 8192 := by omega
  split
  · rw [ref75, ref43]
  · split
    · rw [ref108, ref43]
    · split
      · rw [ref15]
      · rw [ref15, at3_of (l := 1) (m := 4) (n := 256) x3 _ 0 ((c - 512 - 512 - 1024) / 256) ((c - 512 - 512 - 1024) % 256) rfl rfl rfl]

/-- The reference's second result. -/
theorem ref140 (r c : ℕ) (hr : r < 32768) (hc : c < 768) :
    val_main_v140 (F := Ideal) x0 x1 x2 (ValueIdx.ix2 ⟨r, hr⟩ ⟨c, hc⟩) = pr x0 x1 x2 (r / 8192) (r % 8192) (3072 + c) := by
  pointwise [val_main_v140, val_main_v124, val_main_v123, val_main_v20, val_main_v21, val_main_v22]
  have hb : r / 8192 < 4 := by omega
  have hs : r % 8192 < 8192 := by omega
  split
  · rw [ref15]
  · split
    · rw [ref15, show 3584 + (c - 512) = 3072 + c by omega]
    · rw [ref15, show 3712 + (c - 512 - 128) = 3072 + c by omega]

/-- The reference's third result. -/
theorem ref141 (r c : ℕ) (hr : r < 32768) (hc : c < 2048) :
    val_main_v141 (F := Ideal) x0 x1 x2 (ValueIdx.ix2 ⟨r, hr⟩ ⟨c, hc⟩)
      = sigm (pr x0 x1 x2 (r / 8192) (r % 8192) (3840 + c)) := by
  pointwise [val_main_v141, val_main_v138, val_main_v137, val_main_v136, val_main_v135, val_main_v134, val_main_v133, val_main_v132, val_main_v131, val_main_v130, val_main_v129, val_main_v128, val_main_v127, val_main_v126, val_main_v125, val_main_v24, val_main_v23, val_main_cst_10, val_main_cst_11, val_main_cst_12, val_main_cst_13]
  have hb : r / 8192 < 4 := by omega
  have hs : r % 8192 < 8192 := by omega
  unfold sigm
  rw [zero_sub]
  split
  · rw [ref15]
  · rw [ref15, show 4864 + (c - 1024) = 3840 + c by omega]

end Cert.Proof.In
-- ==== Proof.InEq.lean ====
module

public import proofs.«01_k».proof.Proof.InRef

@[expose] public section

set_option maxRecDepth 16384
set_option maxHeartbeats 2000000

noncomputable section

namespace Cert.Proof.In

open Cert.Kernel2Ideal Cert.Kernel2Ideal.Gen
open Idealize.ShloMosaic Idealize.ShloMosaic.TcCoe

/-! ## The kernel's rows against the reference's -/

/-- The kernel's rotary embedding is the reference's: the swapped half times the signed sine is the subtraction. -/
theorem rot_eq (p q cs sn : ℕ → EReal) (s o c : ℕ) (ho : o % 128 = 0) (hc : c < 512)
    (hpq : ∀ j < 512, p (o + j) = q j) (hcs : ∀ k < 128, cs k = cosT s (k % 64))
    (hsn : ∀ k < 128, sn k = if k < 64 then -sinT s k else sinT s (k - 64)) :
    rot p cs sn (o + c) = rrot q s (c / 128) (c % 128) := by
  unfold rot rrot
  have e1 : (o + c) % 128 = c % 128 := by omega
  rw [e1, hcs _ (by omega), hsn _ (by omega), hpq c hc]
  by_cases h : c % 128 < 64
  · rw [if_pos h, if_pos h,
      show (o + c) / 128 * 128 + (c % 128 + 64) % 128 = o + (c / 128 * 128 + (64 + c % 128)) by omega,
      hpq _ (by omega), show c % 128 % 64 = c % 128 by omega, show c / 128 * 128 + c % 128 = c by omega,
      mul_neg, ← sub_eq_add_neg]
  · rw [if_neg h, if_neg h,
      show (o + c) / 128 * 128 + (c % 128 + 64) % 128 = o + (c / 128 * 128 + (c % 128 - 64)) by omega,
      hpq _ (by omega), show c % 128 % 64 = c % 128 - 64 by omega,
      show c / 128 * 128 + (64 + (c % 128 - 64)) = c by omega, add_comm]

/-- Multiplying by the inverse of the decay is dividing by the decay. -/
theorem div_dec (a z : EReal) (h n : ℕ) :
    a * dec (-lgc h) z n = Ideal.div (a * z) (Ideal.exp (lgc h * (((n % 128 + 1 : ℕ) : ℝ) : EReal))) := by
  unfold dec lgc
  rw [← EReal.coe_neg, ← EReal.coe_mul, ← EReal.coe_mul]
  generalize Real.log ((2 ^ (5 + h) - 1) / 2 ^ (5 + h)) = l
  show a * (((Real.exp (-l * ((n % 128 + 1 : ℕ) : ℝ)) : ℝ) : EReal) * z)
    = Ideal.div (a * z) ((Real.exp (l * ((n % 128 + 1 : ℕ) : ℝ)) : ℝ) : EReal)
  unfold Ideal.div
  rw [if_neg (by exact_mod_cast (Real.exp_pos _).ne'), ← EReal.coe_inv, ← Real.exp_neg, neg_mul, mul_assoc, mul_comm z]

/-- The kernel's row of the retention projection is the reference's. -/
theorem retv_eq (x0 : (⟨3, ![4, 8192, 1024]⟩ : Shape).Idx → EReal) (x1 : (⟨2, ![1, 1024]⟩ : Shape).Idx → EReal)
    (x2 : (⟨3, ![1, 1024, 5888]⟩ : Shape).Idx → EReal) (x3 : (⟨3, ![1, 4, 256]⟩ : Shape).Idx → EReal)
    (x g : ℕ → EReal) (w : ℕ → ℕ → EReal) (cs sn gn : ℕ → EReal) (b s r c : ℕ) (hr : r % 128 = s % 128) (hc : c < 3072)
    (hp : ∀ j < 5888, proj x g w j = pr x0 x1 x2 b s j) (hcs : ∀ k < 128, cs k = cosT s (k % 64))
    (hsn : ∀ k < 128, sn k = if k < 64 then -sinT s k else sinT s (k - 64))
    (hgn : ∀ k < 1024, gn k = at3 (l := 1) (m := 4) (n := 256) x3 0 (k / 256) (k % 256)) :
    retv x g w cs sn gn r c = rret x0 x1 x2 x3 b s c := by
  have hd : ∀ l z, dec l z r = dec l z s := fun l z => by unfold dec; rw [hr]
  unfold retv rret
  rw [hd, hd]
  by_cases h0 : c < 512
  · rw [if_pos h0, if_pos h0]
    have e := rot_eq (proj x g w) (pr x0 x1 x2 b s) cs sn s 0 c rfl h0 (fun j hj => by rw [zero_add]; exact hp j (by omega)) hcs hsn
    rw [zero_add] at e
    rw [e]
    unfold dec
    rw [mul_one]
  · rw [if_neg h0, if_neg h0]
    by_cases h1 : c < 1024
    · rw [if_pos h1, if_pos (by omega : c - 512 < 512)]
      have e := rot_eq (proj x g w) (fun c => pr x0 x1 x2 b s (512 + c)) cs sn s 512 (c - 512) rfl (by omega)
        (fun j hj => hp (512 + j) (by omega)) hcs hsn
      rw [show 512 + (c - 512) = c by omega] at e
      rw [e, show c / 128 - 4 = (c - 512) / 128 by omega, div_dec]
    · rw [if_neg h1, if_neg (by omega : ¬c - 512 < 512)]
      by_cases h2 : c < 2048
      · rw [if_pos h2, if_pos (by omega : c - 512 - 512 < 1024), hp c (by omega), show 1024 + (c - 512 - 512) = c by omega]
      · rw [if_neg h2, if_neg (by omega : ¬c - 512 - 512 < 1024), hp c (by omega), hgn (c - 2048) (by omega),
          show 2048 + (c - 512 - 512 - 1024) = c by omega, show c - 512 - 512 - 1024 = c - 2048 by omega]
        unfold sigm
        rw [zero_sub]

/-! ## The kernel's results are the reference's -/

variable (m : (ℓ : Loc nD τ sig) → Buf (Elt Ideal) ℓ)

/-- The projection of a row from the prepared arrays is the one from the arguments. -/
theorem P_eq (c : Dev nD) (r k : ℕ) (hr : r < 32768) (hk : k < 5888) :
    P m c r k = pr (m ((c : Thread nD τ).loc main_arg0)) (m ((c : Thread nD τ).loc main_arg1))
      (m ((c : Thread nD τ).loc main_arg2)) (r / 8192) (r % 8192) k :=
  proj_congr (fun a ha => host49 m c r a hr ha) (fun a ha => host51 m c a ha) (fun a ha => host53 m c a k ha hk)

/-- The retention projection the call leaves is the reference's. -/
theorem eq6 (c : Dev nD) : A6 m c = Cert.Reference2Ideal.Read.val_main_v139 (F := Ideal)
    (m ((c : Thread nD τ).loc main_arg0)) (m ((c : Thread nD τ).loc main_arg1))
    (m ((c : Thread nD τ).loc main_arg2)) (m ((c : Thread nD τ).loc main_arg3)) := by
  funext i
  have h0 : (i 0).val < 32768 := (i 0).isLt
  have h1 : (i 1).val < 3072 := (i 1).isLt
  refine Eq.trans ?_ ((ref139 _ _ _ _ (i 0).val (i 1).val h0 h1).symm.trans (congrArg _ (ValueIdx.eq_ix2 i).symm))
  exact retv_eq _ _ _ _ _ _ _ _ _ _ ((i 0).val / 8192) ((i 0).val % 8192) (i 0).val (i 1).val (by omega) h1
    (fun j hj => P_eq m c (i 0).val j h0 hj) (fun k hk => host46 m c _ k (by omega) hk)
    (fun k hk => host48 m c _ k (by omega) hk) (fun k hk => host55 m c k hk)

/-- The attention projection the call leaves is the reference's. -/
theorem eq7 (c : Dev nD) : A7 m c = Cert.Reference2Ideal.Read.val_main_v140 (F := Ideal)
    (m ((c : Thread nD τ).loc main_arg0)) (m ((c : Thread nD τ).loc main_arg1)) (m ((c : Thread nD τ).loc main_arg2)) := by
  funext i
  have h0 : (i 0).val < 32768 := (i 0).isLt
  have h1 : (i 1).val < 768 := (i 1).isLt
  refine Eq.trans ?_ ((ref140 _ _ _ (i 0).val (i 1).val h0 h1).symm.trans (congrArg _ (ValueIdx.eq_ix2 i).symm))
  exact P_eq m c (i 0).val (3072 + (i 1).val) h0 (by omega)

/-- The branch gates the call leaves are the reference's. -/
theorem eq8 (c : Dev nD) : A8 m c = Cert.Reference2Ideal.Read.val_main_v141 (F := Ideal)
    (m ((c : Thread nD τ).loc main_arg0)) (m ((c : Thread nD τ).loc main_arg1)) (m ((c : Thread nD τ).loc main_arg2)) := by
  funext i
  have h0 : (i 0).val < 32768 := (i 0).isLt
  have h1 : (i 1).val < 2048 := (i 1).isLt
  refine Eq.trans ?_ ((ref141 _ _ _ (i 0).val (i 1).val h0 h1).symm.trans (congrArg _ (ValueIdx.eq_ix2 i).symm))
  exact congrArg sigm (P_eq m c (i 0).val (3840 + (i 1).val) h0 (by omega))

end Cert.Proof.In
-- ==== Proof.InClaim.lean ====
module

public import proofs.«01_k».proof.Defs
public import proofs.«01_k».proof.Proof.InEq
public import proofs.«01_k».proof.Proof.Gen.Reference2Ideal.Run

@[expose] public section

set_option maxRecDepth 16384
set_option maxHeartbeats 400000

noncomputable section

namespace Cert.Proof.In

open Idealize.ShloMosaic Idealize.ShloMosaic.StableHlo Idealize.ShloMosaic.TcCoe Idealize.SL.Sem

/-- The input projection's call and its reference, on extended reals, leave the same three arrays. -/
theorem algebraic : Cert.algebraic_Kernel2Ideal_Reference2Ideal := by
  intro m g m' g' _ hag
  refine ⟨fun c => A6 m c, fun c => A7 m c, fun c => A8 m c, ?_, ?_⟩
  · refine (θ_run _ _ _).mono (fun r h c => ?_) (Cert.Kernel2Ideal.Value.run_blocks (F := Ideal) m g)
    obtain ⟨h6, h7, h8, h0, h1, h2, h3⟩ := h c
    exact ⟨h6.trans (arr6 m c), h7.trans (arr7 m c), h8.trans (arr8 m c), h0, h1, h2, h3⟩
  · refine (θ_run _ _ _).mono (fun r h c => ?_) (Cert.Reference2Ideal.Value.run (F := Ideal) m' g')
    obtain ⟨h6, h7, h8, h0, h1, h2, h3⟩ := h c
    obtain ⟨a0, a1, a2, a3⟩ := hag c
    refine ⟨?_, ?_, ?_, h0, h1, h2, h3⟩
    · refine (h6.trans (Cert.Reference2Ideal.Read.val_main_v139_eq (launchContents m' c))).trans ?_
      rw [launchContents_devRef, launchContents_devRef, launchContents_devRef, launchContents_devRef, a0, a1, a2, a3]
      exact (eq6 m c).symm
    · refine (h7.trans (Cert.Reference2Ideal.Read.val_main_v140_eq (launchContents m' c))).trans ?_
      rw [launchContents_devRef, launchContents_devRef, launchContents_devRef, a0, a1, a2]
      exact (eq7 m c).symm
    · refine (h8.trans (Cert.Reference2Ideal.Read.val_main_v141_eq (launchContents m' c))).trans ?_
      rw [launchContents_devRef, launchContents_devRef, launchContents_devRef, a0, a1, a2]
      exact (eq8 m c).symm

/-- The reference of the input projection runs and leaves its arguments unchanged. -/
theorem frame_ri : Cert.quiescent_Reference2Ideal := fun m g _ =>
  (θ_run _ _ _).mono (fun r h => ⟨fun c => ⟨(h c).2.2.2.1, (h c).2.2.2.2.1, (h c).2.2.2.2.2.1, (h c).2.2.2.2.2.2⟩,
    sem_eq_zero_of_no_sems (by decide) r.2⟩) (Cert.Reference2Ideal.Value.run (F := _) m g)

/-- The named constants of the input projection's call are the constants it is printed with. -/
theorem preserves : Cert.preserves_Kernel2_Kernel2Ideal :=
  ⟨IdealRules.named_const.statement Cert.Kernel2Ideal.κ "lg0" .f32 0xBD020AEC#32 _ rfl,
   IdealRules.named_const.statement Cert.Kernel2Ideal.κ "lg1" .f32 0xBC8102B3#32 _ rfl,
   IdealRules.named_const.statement Cert.Kernel2Ideal.κ "lg2" .f32 0xBC0080AC#32 _ rfl,
   IdealRules.named_const.statement Cert.Kernel2Ideal.κ "lg3" .f32 0xBB80402B#32 _ rfl,
   IdealRules.named_const.statement Cert.Kernel2Ideal.κ "nlg0" .f32 0x3D020AEC#32 _ rfl,
   IdealRules.named_const.statement Cert.Kernel2Ideal.κ "nlg1" .f32 0x3C8102B3#32 _ rfl,
   IdealRules.named_const.statement Cert.Kernel2Ideal.κ "nlg2" .f32 0x3C0080AC#32 _ rfl,
   IdealRules.named_const.statement Cert.Kernel2Ideal.κ "nlg3" .f32 0x3B80402B#32 _ rfl⟩

end Cert.Proof.In
-- ==== Proof.MxRet.lean ====
module

public import proofs.«01_k».proof.Proof.InPieces
public import proofs.«01_k».proof.Proof.InHost
public import proofs.«01_k».proof.Proof.Gen.KernelIdeal.Value

@[expose] public section

set_option maxRecDepth 16384
set_option maxHeartbeats 2000000

noncomputable section

namespace Cert.Proof.Mx

open Cert.KernelIdeal Cert.KernelIdeal.Gen
open Idealize.ShloMosaic Idealize.ShloMosaic.ValueIdx
open Cert.Proof.In (at2 at2_of emb2 sit div_coe at2_ld)

/-! ## What one row of the retention computes -/

/-- The masked score of row `r` against row `k` of a chunk. -/
def scr (q k : ℕ → ℕ → EReal) (r j : ℕ) : EReal := if j ≤ r then ∑ d : Fin 128, q r d * k j d else 0

/-- A chunk's keys times its values. -/
def kvs (k v : ℕ → ℕ → EReal) (d e : ℕ) : EReal := ∑ j : Fin 128, k j d * v j e

/-- The retention of row `r`: the chunk's own part and the state's. -/
def rett (q k v s : ℕ → ℕ → EReal) (r e : ℕ) : EReal :=
  (∑ j : Fin 128, scr q k r j * v j e) + ∑ d : Fin 128, q r d * s d e

/-- A row less its mean, times the reciprocal of its deviation. -/
def nrmr (f : ℕ → EReal) (e : ℕ) : EReal :=
  (f e - Ideal.div (∑ a : Fin 256, f a) (Ideal.ofBits .f32 0x43800000#32))
    * Ideal.rsqrt (Ideal.div (∑ b : Fin 256, (f b - Ideal.div (∑ a : Fin 256, f a) (Ideal.ofBits .f32 0x43800000#32))
        * (f b - Ideal.div (∑ a : Fin 256, f a) (Ideal.ofBits .f32 0x43800000#32))) (Ideal.ofBits .f32 0x43800000#32)
      + Ideal.ofBits .f32 0x358637BD#32)

/-! ## The kernel's operations, at an index -/

/-- The causal mask of a chunk. -/
theorem pay5_apply (y : S128x128.Idx) : k0_pay5 y = if (y 1).val ≤ (y 0).val then 1#1 else 0#1 := by
  have h : ∀ a b : Fin 128, IntOp.cmpi .sge (BitVec.ofNat 32 a.val) (BitVec.ofNat 32 b.val)
      = if b.val ≤ a.val then 1#1 else 0#1 := by decide +kernel
  unfold k0_pay5
  show IntOp.cmpi .sge (iota .tc S128x128 32 [0] iota_S128x128_d0_w32 y) (iota .tc S128x128 32 [1] iota_S128x128_d1_w32 y) = _
  rw [iota_single_apply .tc S128x128 32 0 iota_S128x128_d0_w32 y, iota_single_apply .tc S128x128 32 1 iota_S128x128_d1_w32 y]
  exact h (y 0) (y 1)

/-- The masked scores. -/
theorem pay6_apply (q k : FVec Ideal S128x128 .bf16) (y : S128x128.Idx) :
    k0_pay6 (F := Ideal) q k y = scr (at2 q) (at2 k) (y 0).val (y 1).val := by
  unfold k0_pay6 scr
  show Scalar.select (k0_pay5 y) (FloatOps.matmul dot_S128x128_S128x128_S128x128_1_1_0_0_n_n none (q : FVec Ideal S128x128 .bf16) (k : FVec Ideal S128x128 .bf16) (constant S128x128 .f32 0x00000000#32) y)
    (Ideal.ofBits .f32 0x00000000#32) = _
  rw [pay5_apply]
  unfold Scalar.select
  split
  · rw [if_pos (by decide)]
    show FloatOps.matmul dot_S128x128_S128x128_S128x128_1_1_0_0_n_n none (q : FVec Ideal S128x128 .bf16) (k : FVec Ideal S128x128 .bf16) (constant S128x128 .f32 0x00000000#32) y = _
    rw [Ideal.matmul_constant_zero_apply, ← Equiv.sum_comp (contrEquiv1 dot_S128x128_S128x128_S128x128_1_1_0_0_n_n 128 rfl rfl).symm]
    refine Finset.sum_congr rfl fun d _ => ?_
    exact congrArg₂ (· * ·) (at2_of q _ (y 0).val d.val rfl (contrEquiv1_symm_val dot_S128x128_S128x128_S128x128_1_1_0_0_n_n 128 rfl rfl d))
      (at2_of k _ (y 1).val d.val rfl (contrEquiv1_symm_val dot_S128x128_S128x128_S128x128_1_1_0_0_n_n 128 rfl rfl d))
  · rw [if_neg (by decide)]
    exact Ideal.ofBits_zero_f32

/-- The chunk's keys times its values. -/
theorem pay10_apply (k : FVec Ideal S128x128 .bf16) (v : FVec Ideal S128x256 .bf16) (y : S128x256.Idx) :
    k0_pay10 (F := Ideal) k v y = kvs (at2 k) (at2 v) (y 0).val (y 1).val := by
  unfold k0_pay10 kvs
  show FloatOps.matmul dot_S128x128_S128x256_S128x256_1_0_0_1_n_n none (transpose S128x128 [1, 0] (k : FVec Ideal S128x128 .bf16) transposes_S128x128_p1_0_S128x128 : FVec Ideal S128x128 .bf16) (v : FVec Ideal S128x256 .bf16) (constant S128x256 .f32 0x00000000#32) y = _
  rw [Ideal.matmul_constant_zero_apply, ← Equiv.sum_comp (contrEquiv1 dot_S128x128_S128x256_S128x256_1_0_0_1_n_n 128 rfl rfl).symm]
  refine Finset.sum_congr rfl fun d _ => ?_
  refine congrArg₂ (· * ·) ?_ (at2_of v _ d.val (y 1).val (contrEquiv1_symm_val dot_S128x128_S128x256_S128x256_1_0_0_1_n_n 128 rfl rfl d) rfl)
  refine (transpose_apply (s := S128x128) (t := S128x128) _ k transposes_S128x128_p1_0_S128x128 _ (ValueIdx.ix2 d (y 0)) ?_).trans
    (at2_of k _ d.val (y 0).val rfl rfl)
  intro a
  match a with
  | ⟨0, _⟩ => rfl
  | ⟨1, _⟩ => exact contrEquiv1_symm_val dot_S128x128_S128x256_S128x256_1_0_0_1_n_n 128 rfl rfl d

/-- The retention before its norm. -/
theorem pay50_apply (s q : Vec Ideal S128x128 .bf16) (st v : FVec Ideal S128x256 .bf16) (y : S128x256.Idx) :
    k0_pay50 (F := Ideal) s st q v y = (∑ j : Fin 128, at2 s (y 0).val j.val * at2 v j.val (y 1).val)
      + ∑ d : Fin 128, at2 q (y 0).val d.val * at2 st d.val (y 1).val := by
  unfold k0_pay50
  show FloatOps.matmul dot_S128x256_S256x256_S128x256_1_0_0_1_n_n none
    (concatenate S128x256 1 [⟨S128x128, s⟩, ⟨S128x128, q⟩] concatenates_S128x128_S128x128_S128x256_d1)
    (concatenate S256x256 0 [⟨S128x256, v⟩, ⟨S128x256, st⟩] concatenates_S128x256_S128x256_S256x256_d0) (constant S128x256 .f32 0x00000000#32) y = _
  rw [Ideal.matmul_constant_zero_apply, ← Equiv.sum_comp (contrEquiv1 dot_S128x256_S256x256_S128x256_1_0_0_1_n_n 256 rfl rfl).symm]
  refine (Fin.sum_univ_add (a := 128) (b := 128) _).trans ?_
  have hc := contrEquiv1_symm_val dot_S128x256_S256x256_S128x256_1_0_0_1_n_n 256 rfl rfl
  refine congrArg₂ (· + ·) (Finset.sum_congr rfl fun d _ => congrArg₂ (· * ·) ?_ ?_) (Finset.sum_congr rfl fun d _ => congrArg₂ (· * ·) ?_ ?_)
  · refine (concatenate_pair_apply_left (t := S128x256) (s₁ := S128x128) (s₂ := S128x128) 1 s q concatenates_S128x128_S128x128_S128x256_d1 _ rfl (ValueIdx.ix2 (y 0) d) ?_).trans (at2_of s _ _ _ rfl rfl)
    intro b
    match b with
    | ⟨0, _⟩ => rfl
    | ⟨1, _⟩ => exact (hc (Fin.castAdd 128 d)).symm
  · refine (concatenate_pair_apply_left (t := S256x256) (s₁ := S128x256) (s₂ := S128x256) 0 v st concatenates_S128x256_S128x256_S256x256_d0 _ rfl (ValueIdx.ix2 d (y 1)) ?_).trans (at2_of v _ _ _ rfl rfl)
    intro b
    match b with
    | ⟨0, _⟩ => exact (hc (Fin.castAdd 128 d)).symm
    | ⟨1, _⟩ => rfl
  · refine (concatenate_pair_apply_right (t := S128x256) (s₁ := S128x128) (s₂ := S128x128) 1 s q concatenates_S128x128_S128x128_S128x256_d1 _ rfl rfl (ValueIdx.ix2 (y 0) d) ?_ ?_).trans (at2_of q _ _ _ rfl rfl)
    · intro b hb
      match b with
      | ⟨0, _⟩ => rfl
      | ⟨1, _⟩ => exact absurd rfl hb
    · exact (Nat.add_comm _ _).trans (hc (Fin.natAdd 128 d)).symm
  · refine (concatenate_pair_apply_right (t := S256x256) (s₁ := S128x256) (s₂ := S128x256) 0 v st concatenates_S128x256_S128x256_S256x256_d0 _ rfl rfl (ValueIdx.ix2 d (y 1)) ?_ ?_).trans (at2_of st _ _ _ rfl rfl)
    · intro b hb
      match b with
      | ⟨0, _⟩ => exact absurd rfl hb
      | ⟨1, _⟩ => rfl
    · exact (Nat.add_comm _ _).trans (hc (Fin.natAdd 128 d)).symm

/-- The sum of a row, kept as a column. -/
theorem row_sum (f : FVec Ideal S128x256 .f32) (hc) (hφ) (y : S128x1.Idx) :
    shapeCast S128x1 (multiReduction (F := Ideal) .add [1] S128 f 0x00000000#32 reduces_S128x256_S128 (.inl rfl) hφ) hc y
      = ∑ k : Fin 256, at2 f (y 0).val k.val := by
  refine (shapeCast_apply (s := S128) (t := S128x1) _ _ y (ValueIdx.ix1 (y 0)) (by
    rw [Shape.rowMajor_val_one, Shape.rowMajor_val_two]
    have : (y 1).val < 1 := (y 1).isLt
    show (y 0).val = (y 0).val * 1 + (y 1).val; omega)).trans ?_
  refine (Ideal.multiReduction_add_single (s := S128x256) (t := S128) (a := 1) _ _ reduces_S128x256_S128 _ hφ _).trans ?_
  refine Finset.sum_congr rfl fun k _ => ?_
  exact at2_of f (reduces_S128x256_S128.lift (ValueIdx.ix1 (y 0)) k) (y 0).val k.val rfl rfl

/-- A column spread over the rows. -/
theorem col_spread (f : FVec Ideal S128x1 .f32) (h) (y : S128x256.Idx) :
    broadcastTo S128x256 f h y = f (ValueIdx.ix2 (y 0) 0) :=
  broadcastTo_apply (s := S128x1) _ _ y (ValueIdx.ix2 (y 0) 0) (by
    intro a; match a with
    | ⟨0, _⟩ => rfl
    | ⟨1, _⟩ => rfl)

/-- The norm and the gate. -/
theorem pay103_apply (f : FVec Ideal S128x256 .f32) (g : Vec Ideal S128x256 .bf16) (y : S128x256.Idx) :
    k0_pay103 (F := Ideal) f g y = nrmr (at2 f (y 0).val) (y 1).val * at2 g (y 0).val (y 1).val := by
  have hd : ∀ z : S128x256.Idx, subf f (broadcastTo S128x256 (divf (shapeCast S128x1 (multiReduction (F := Ideal) .add [1] S128 f 0x00000000#32 reduces_S128x256_S128 (.inl rfl) rfl) shapeCasts_S128_S128x1)
      (broadcast S128x1 (Scalar.ofBits (F := Ideal) .f32 0x43800000#32))) broadcasts_S128x1_S128x256) z
      = at2 f (z 0).val (z 1).val - Ideal.div (∑ a : Fin 256, at2 f (z 0).val a.val) (Ideal.ofBits .f32 0x43800000#32) := by
    intro z
    show f z - broadcastTo S128x256 _ _ z = _
    rw [col_spread, at2_of f z _ _ rfl rfl]
    exact congrArg (fun u : EReal => at2 f (z 0).val (z 1).val - Ideal.div u (Ideal.ofBits .f32 0x43800000#32))
      (row_sum f _ _ (ValueIdx.ix2 (z 0) 0))
  unfold k0_pay103 nrmr
  show subf f _ y * broadcastTo S128x256 _ _ y * g y = _
  rw [hd, col_spread, at2_of g y _ _ rfl rfl]
  refine congrArg (fun u : EReal => (at2 f (y 0).val (y 1).val - Ideal.div (∑ a : Fin 256, at2 f (y 0).val a.val) (Ideal.ofBits .f32 0x43800000#32))
    * Ideal.rsqrt (Ideal.div u (Ideal.ofBits .f32 0x43800000#32) + Ideal.ofBits .f32 0x358637BD#32) * at2 g (y 0).val (y 1).val)
    ((row_sum _ _ _ (ValueIdx.ix2 (y 0) 0)).trans ?_)
  refine Finset.sum_congr rfl fun k _ => ?_
  refine (at2_of _ (ValueIdx.ix2 (y 0) k) (y 0).val k.val rfl rfl).symm.trans ?_
  exact congrArg₂ (· * ·) (hd _) (hd _)

/-- One step of the state. -/
def stepV (cd : Ideal .f32) (st kv : FVec Ideal S128x256 .f32) : FVec Ideal S128x256 .f32 :=
  mulf (broadcast S128x256 cd) (addf st kv)

/-- The retained rows as the kernel computes them from a chunk and a state. -/
def outV (st : FVec Ideal S128x256 .f32) (q k : Vec Ideal S128x128 .bf16) (v g : Vec Ideal S128x256 .bf16) : FVec Ideal S128x256 .bf16 :=
  k0_pay103 (F := Ideal) (k0_pay50 (F := Ideal) (k0_pay6 (F := Ideal) q k) (truncf .bf16 st bitsLt_bf16_f32) q v) g

/-- The retained rows, at an index. -/
theorem outV_apply (st : FVec Ideal S128x256 .f32) (q k : Vec Ideal S128x128 .bf16) (v g : Vec Ideal S128x256 .bf16) (y : S128x256.Idx) :
    outV st q k v g y = nrmr (rett (at2 q) (at2 k) (at2 v) (at2 st) (y 0).val) (y 1).val * at2 g (y 0).val (y 1).val := by
  unfold outV
  rw [pay103_apply]
  refine congrArg (· * _) ?_
  have e : ∀ a < 256, at2 (m := 128) (n := 256) (k0_pay50 (F := Ideal) (k0_pay6 (F := Ideal) q k) (truncf .bf16 st bitsLt_bf16_f32) q v) (y 0).val a
      = rett (at2 q) (at2 k) (at2 v) (at2 st) (y 0).val a := by
    intro a ha
    rw [← at2_of (m := 128) (n := 256) _ (ValueIdx.ix2 (y 0) ⟨a, ha⟩) (y 0).val a rfl rfl, pay50_apply]
    unfold rett
    refine congrArg₂ (· + ·) (Finset.sum_congr rfl fun j _ => congrArg (· * _) ?_) rfl
    exact (at2_of (m := 128) (n := 128) _ (ValueIdx.ix2 (y 0) j) _ _ rfl rfl).symm.trans (pay6_apply q k (ValueIdx.ix2 (y 0) j))
  unfold nrmr
  rw [e _ (y 1).isLt, Finset.sum_congr rfl fun a _ => e a.val (by exact a.isLt)]
  refine congrArg (fun u => _ * Ideal.rsqrt (Ideal.div u _ + _)) (Finset.sum_congr rfl fun a _ => ?_)
  rw [e a.val a.isLt]

end Cert.Proof.Mx
-- ==== Proof.MxRetP.lean ====
module

public import proofs.«01_k».proof.Proof.MxRet
public import proofs.«01_k».proof.Proof.InHost
public import Idealize.ShloMosaic.Lib.Pipeline.ReadBack

@[expose] public section

set_option maxRecDepth 16384
set_option maxHeartbeats 2000000

noncomputable section

namespace Cert.Proof.Mx

open Cert.KernelIdeal Cert.KernelIdeal.Gen
open Idealize.ShloMosaic Idealize.ShloMosaic.ValueIdx
open Cert.Proof.In (at2 at2_of emb2 sit div_coe at2_ld at3 at3_of)

/-! ## The state along the chunks of a block -/

/-- The decay of head `h` over a chunk. -/
def cdv (h : ℕ) : EReal := ((((2 ^ (5 + h) - 1) / 2 ^ (5 + h)) ^ 128 : ℝ) : EReal)

/-- The named decays. -/
theorem cd_named : (Named.named (F := Ideal) κ "cd0" (φ := .f32) 0x3C8CC36A#32 : EReal) = cdv 0
    ∧ (Named.named (F := Ideal) κ "cd1" (φ := .f32) 0x3E08698E#32 : EReal) = cdv 1
    ∧ (Named.named (F := Ideal) κ "cd2" (φ := .f32) 0x3EBB9DB9#32 : EReal) = cdv 2
    ∧ (Named.named (F := Ideal) κ "cd3" (φ := .f32) 0x3F1B1EB1#32 : EReal) = cdv 3 := by
  unfold cdv
  refine ⟨?_, ?_, ?_, ?_⟩
  all_goals
    refine (congrArg (Option.getD · _) (rfl : κ _ = some _)).trans ?_
    show ((_ : ℝ) : EReal) = _
    norm_num

/-- The state of a head at the start of chunk `j` of a block. -/
def stB (cd : EReal) (k v : ℕ → ℕ → EReal) (s : ℕ → ℕ → EReal) : ℕ → ℕ → ℕ → EReal
  | 0 => s
  | j + 1 => fun d e => cd * (stB cd k v s j d e + kvs (fun r => k (128 * j + r)) (fun r => v (128 * j + r)) d e)

/-- The retained entry in row `r` of a block and lane `e` of head `h`, from the block's queries, keys, values, gate and
    the head's state at the block's start. -/
def retE (cd : EReal) (q k v g s : ℕ → ℕ → EReal) (r e : ℕ) : EReal :=
  nrmr (rett (fun i => q (r / 128 * 128 + i)) (fun i => k (r / 128 * 128 + i)) (fun i => v (r / 128 * 128 + i)) (stB cd k v s (r / 128)) (r % 128)) e
    * g r e

/-- The retention block a grid point leaves. -/
def G12 (x1 x2 : Vec Ideal S512x512 .bf16) (x3 x4 : Vec Ideal S512x1024 .bf16) (xs : Vec Ideal S4x128x256 .f32) (z : S512x1024.Idx) : EReal :=
  retE (cdv ((z 1).val / 256)) (fun r d => at2 x1 r (128 * ((z 1).val / 256) + d)) (fun r d => at2 x2 r (128 * ((z 1).val / 256) + d))
    (fun r e => at2 x3 r (256 * ((z 1).val / 256) + e)) (fun r e => at2 x4 r (256 * ((z 1).val / 256) + e)) (at3 xs ((z 1).val / 256))
    (z 0).val ((z 1).val % 256)

/-- The state a grid point leaves. -/
def GS (x2 : Vec Ideal S512x512 .bf16) (x3 : Vec Ideal S512x1024 .bf16) (xs : Vec Ideal S4x128x256 .f32) (z : S4x128x256.Idx) : EReal :=
  stB (cdv (z 0).val) (fun r d => at2 x2 r (128 * (z 0).val + d)) (fun r e => at2 x3 r (256 * (z 0).val + e)) (at3 xs (z 0).val) 4 (z 1).val (z 2).val

/-- A 128 by 128 part of the queries or keys. -/
def ldq (x : Vec Ideal S512x512 .bf16) (s c : ℕ) (hs : s + 128 ≤ 512) (hc : c + 128 ≤ 512) : Vec Ideal S128x128 .bf16 :=
  View.ld x (Rect.unit (s := S512x512) ![s, c] ![128, 128] (by intro a; match a with | ⟨0, _⟩ => exact hs | ⟨1, _⟩ => exact hc))

/-- A 128 by 256 part of the values or the gate. -/
def ldv (x : Vec Ideal S512x1024 .bf16) (s c : ℕ) (hs : s + 128 ≤ 512) (hc : c + 256 ≤ 1024) : Vec Ideal S128x256 .bf16 :=
  View.ld x (Rect.unit (s := S512x1024) ![s, c] ![128, 256] (by intro a; match a with | ⟨0, _⟩ => exact hs | ⟨1, _⟩ => exact hc))

/-- A head's state. -/
def lds (x : Vec Ideal S4x128x256 .f32) (h : ℕ) (hh : h < 4) : Vec Ideal S1x128x256 .f32 :=
  View.ld x (Rect.unit (s := S4x128x256) ![h, 0, 0] ![1, 128, 256] (by intro a; match a with | ⟨0, _⟩ => exact hh | ⟨1, _⟩ => exact Nat.le_refl 128 | ⟨2, _⟩ => exact Nat.le_refl 256))

theorem at2_ldq (x s c hs hc) (r d : ℕ) (hr : r < 128) (hd : d < 128) : at2 (ldq x s c hs hc) r d = at2 x (s + r) (c + d) :=
  at2_ld x s c _ r d hr hd

theorem at2_ldv (x s c hs hc) (r d : ℕ) (hr : r < 128) (hd : d < 256) : at2 (ldv x s c hs hc) r d = at2 x (s + r) (c + d) :=
  at2_ld x s c _ r d hr hd

/-- A head's state as a matrix. -/
theorem pay39_lds (x h hh) (r d : ℕ) (hr : r < 128) (hd : d < 256) : at2 (m := 128) (n := 256) (k0_pay39 (F := Ideal) (lds x h hh)) r d = at3 x h r d := by
  rw [← at2_of (m := 128) (n := 256) _ (ValueIdx.ix2 ⟨r, hr⟩ ⟨d, hd⟩) r d rfl rfl]
  unfold k0_pay39
  refine (shapeCast_apply (s := S1x128x256) (t := S128x256) _ _ _ (ValueIdx.ix3 (0 : Fin 1) (⟨r, hr⟩ : Fin 128) (⟨d, hd⟩ : Fin 256)) (by
    rw [Shape.rowMajor_val_three, Shape.rowMajor_val_two]; show (0 * 128 + r) * 256 + d = r * 256 + d; omega)).trans ?_
  exact at3_of x _ _ _ _ (by show h + 1 * 0 = h; omega) (by show 0 + 1 * r = r; omega) (by show 0 + 1 * d = d; omega)

/-- The state along the chunks as the kernel carries it. -/
def stV (cd : Ideal .f32) (x2 : Vec Ideal S512x512 .bf16) (x3 : Vec Ideal S512x1024 .bf16) (xs : Vec Ideal S4x128x256 .f32) (h : ℕ) (hh : h < 4) :
    (j : ℕ) → j ≤ 4 → FVec Ideal S128x256 .f32
  | 0, _ => k0_pay39 (F := Ideal) (lds xs h hh)
  | j + 1, hj => stepV cd (stV cd x2 x3 xs h hh j (by omega)) (k0_pay10 (F := Ideal) (ldq x2 (128 * j) (128 * h) (by omega) (by omega)) (ldv x3 (128 * j) (256 * h) (by omega) (by omega)))

/-- Sums of products over a chunk agree when the rows do. -/
theorem kvs_congr {k k' v v' : ℕ → ℕ → EReal} {d e : ℕ} (hk : ∀ r < 128, k r d = k' r d) (hv : ∀ r < 128, v r e = v' r e) :
    kvs k v d e = kvs k' v' d e :=
  Finset.sum_congr rfl fun r _ => congrArg₂ (· * ·) (hk r.val r.isLt) (hv r.val r.isLt)

theorem stV_apply (cd : Ideal .f32) (x2 x3 xs h hh) : ∀ (j : ℕ) (hj : j ≤ 4) (d e : ℕ), d < 128 → e < 256 →
    at2 (stV cd x2 x3 xs h hh j hj) d e
      = stB cd (fun r d => at2 x2 r (128 * h + d)) (fun r e => at2 x3 r (256 * h + e)) (at3 xs h) j d e
  | 0, _, d, e, hd, he => pay39_lds xs h hh d e hd he
  | j + 1, hj, d, e, hd, he => by
    rw [← at2_of (m := 128) (n := 256) _ (ValueIdx.ix2 ⟨d, hd⟩ ⟨e, he⟩) d e rfl rfl]
    show cd * (stV cd x2 x3 xs h hh j _ (ValueIdx.ix2 ⟨d, hd⟩ ⟨e, he⟩) + k0_pay10 (F := Ideal) _ _ (ValueIdx.ix2 ⟨d, hd⟩ ⟨e, he⟩)) = _
    rw [at2_of (m := 128) (n := 256) (stV cd x2 x3 xs h hh j _) (ValueIdx.ix2 ⟨d, hd⟩ ⟨e, he⟩) d e rfl rfl, stV_apply cd x2 x3 xs h hh j _ d e hd he, pay10_apply]
    show _ = cd * (_ + _)
    refine congrArg (fun u : EReal => cd * (_ + u)) (kvs_congr (fun r hr => ?_) (fun r hr => ?_))
    · exact at2_ldq x2 _ _ _ _ r d hr hd
    · exact at2_ldv x3 _ _ _ _ r e hr he

/-- The retention of a row agrees when all it reads does. -/
theorem rett_congr {q q' k k' v v' s s' : ℕ → ℕ → EReal} {r r' e : ℕ} (hr' : r = r') (hr : r < 128) (he : e < 256)
    (hq : ∀ r < 128, ∀ d < 128, q r d = q' r d) (hk : ∀ r < 128, ∀ d < 128, k r d = k' r d) (hv : ∀ r < 128, ∀ e < 256, v r e = v' r e)
    (hs : ∀ d < 128, ∀ e < 256, s d e = s' d e) : rett q k v s r e = rett q' k' v' s' r' e := by
  subst hr'
  unfold rett scr
  refine congrArg₂ (· + ·) (Finset.sum_congr rfl fun j _ => congrArg₂ (· * ·) ?_ (hv _ j.isLt _ he))
    (Finset.sum_congr rfl fun d _ => congrArg₂ (· * ·) (hq _ hr _ d.isLt) (hs _ d.isLt _ he))
  split
  · exact Finset.sum_congr rfl fun d _ => congrArg₂ (· * ·) (hq _ hr _ d.isLt) (hk _ j.isLt _ d.isLt)
  · rfl

/-- The norm of a row agrees when the row does. -/
theorem nrmr_congr {f f' : ℕ → EReal} {e e' : ℕ} (h : e = e') (he : e < 256) (hf : ∀ a < 256, f a = f' a) : nrmr f e = nrmr f' e' := by
  subst h
  unfold nrmr
  rw [hf e he, Finset.sum_congr rfl fun a _ => hf a.val (by exact a.isLt)]
  refine congrArg (fun u => _ * Ideal.rsqrt (Ideal.div u _ + _)) (Finset.sum_congr rfl fun a _ => ?_)
  rw [hf a.val a.isLt]

/-- A stored piece of the retention block, from its rows before the norm. -/
theorem ret_piece (h : ℕ) (hh : h < 4) (j : ℕ) (hj : j < 4) (x1 x2 x3 x4 xs) (inb) (f : FVec Ideal S128x256 .f32)
    (hf : ∀ r < 128, ∀ e < 256, at2 (m := 128) (n := 256) f r e
      = rett (at2 (ldq x1 (128 * j) (128 * h) (by omega) (by omega))) (at2 (ldq x2 (128 * j) (128 * h) (by omega) (by omega)))
        (at2 (ldv x3 (128 * j) (256 * h) (by omega) (by omega)))
        (stB (cdv h) (fun r d => at2 x2 r (128 * h + d)) (fun r e => at2 x3 r (256 * h + e)) (at3 xs h) j) r e)
    (y : S128x256.Idx) :
    k0_pay103 (F := Ideal) f (ldv x4 (128 * j) (256 * h) (by omega) (by omega)) y
      = G12 x1 x2 x3 x4 xs ((Rect.unit (s := S512x1024) ![128 * j, 256 * h] ![128, 256] inb).emb y) := by
  have y0 : (y 0).val < 128 := (y 0).isLt
  have y1 : (y 1).val < 256 := (y 1).isLt
  obtain ⟨e0, e1⟩ := emb2 (m := 512) (n := 1024) (a := 128) (b := 256) (128 * j) (256 * h) inb y
  unfold G12 retE
  rw [show ((((Rect.unit (s := S512x1024) ![128 * j, 256 * h] ![128, 256] inb).emb y) 0).val) = 128 * j + (y 0).val from e0,
    show ((((Rect.unit (s := S512x1024) ![128 * j, 256 * h] ![128, 256] inb).emb y) 1).val) = 256 * h + (y 1).val from e1,
    show (256 * h + (y 1).val) / 256 = h by omega, show (256 * h + (y 1).val) % 256 = (y 1).val by omega,
    show (128 * j + (y 0).val) / 128 = j by omega, show (128 * j + (y 0).val) % 128 = (y 0).val by omega, pay103_apply, Nat.mul_comm j 128]
  refine congrArg₂ (· * ·) (nrmr_congr rfl y1 fun a ha => (hf _ y0 a ha).trans (rett_congr rfl y0 ha ?_ ?_ ?_ ?_)) (at2_ldv x4 _ _ _ _ _ _ y0 y1)
  · exact fun r hr d hd => at2_ldq x1 _ _ _ _ r d hr hd
  · exact fun r hr d hd => at2_ldq x2 _ _ _ _ r d hr hd
  · exact fun r hr d hd => at2_ldv x3 _ _ _ _ r d hr hd
  · exact fun d hd e he => rfl

/-- The pair joined along an axis, its pieces as arguments. -/
def cat2 {α : Type} (t : Shape) (a : Fin t.rank) (s₁ s₂ : Shape) (x : s₁.Idx → α) (y : s₂.Idx → α) (h : Shape.Concatenates [s₁, s₂] t a) : t.Idx → α :=
  concatenate t a [⟨s₁, x⟩, ⟨s₂, y⟩] h

theorem cat2_eq {α : Type} (t : Shape) (a : Fin t.rank) (s₁ s₂ : Shape) (x : s₁.Idx → α) (y : s₂.Idx → α) (h : Shape.Concatenates [s₁, s₂] t a) :
    concatenate t a [⟨s₁, x⟩, ⟨s₂, y⟩] h = cat2 t a s₁ s₂ x y h := rfl

/-- The rows before the norm, from the state. -/
theorem rows_piece (q k : Vec Ideal S128x128 .bf16) (v : Vec Ideal S128x256 .bf16) (s : ℕ → ℕ → EReal) (st : FVec Ideal S128x256 .bf16)
    (hs : ∀ d < 128, ∀ e < 256, at2 (m := 128) (n := 256) st d e = s d e) : ∀ r < 128, ∀ e < 256,
    at2 (m := 128) (n := 256) (k0_pay50 (F := Ideal) (k0_pay6 (F := Ideal) q k) st q v) r e
      = rett (at2 q) (at2 k) (at2 v) s r e := by
  intro r hr e he
  rw [← at2_of (m := 128) (n := 256) _ (ValueIdx.ix2 ⟨r, hr⟩ ⟨e, he⟩) r e rfl rfl, pay50_apply]
  unfold rett
  refine congrArg₂ (· + ·) (Finset.sum_congr rfl fun j _ => congrArg (· * _) ?_) (Finset.sum_congr rfl fun d _ => congrArg (_ * ·) ?_)
  · exact (at2_of (m := 128) (n := 128) _ (ValueIdx.ix2 ⟨r, hr⟩ j) _ _ rfl rfl).symm.trans (pay6_apply q k (ValueIdx.ix2 ⟨r, hr⟩ j))
  · exact hs d d.isLt e he

/-- The state from its steps. -/
theorem state_piece (h : ℕ) (hh : h < 4) (j : ℕ) (hj : j ≤ 4) (cd : Ideal .f32) (hcd : cd = cdv h) (x2 x3 xs) : ∀ d < 128, ∀ e < 256,
    at2 (m := 128) (n := 256) (truncf .bf16 (stV cd x2 x3 xs h hh j hj) bitsLt_bf16_f32 : FVec Ideal S128x256 .bf16) d e
      = stB (cdv h) (fun r d => at2 x2 r (128 * h + d)) (fun r e => at2 x3 r (256 * h + e)) (at3 xs h) j d e := by
  intro d hd e he
  rw [← hcd]
  exact stV_apply cd x2 x3 xs h hh j hj d e hd he

/-- A stored piece of the state. -/
theorem st_piece (h : ℕ) (hh : h < 4) (cd : Ideal .f32) (hcd : cd = cdv h) (x2 x3 xs) (inb) (y : S1x128x256.Idx) :
    shapeCast S1x128x256 (stV cd x2 x3 xs h hh 4 (by omega)) shapeCasts_S128x256_S1x128x256 y
      = GS x2 x3 xs ((Rect.unit (s := S4x128x256) ![h, 0, 0] ![1, 128, 256] inb).emb y) := by
  have y0 : (y 0).val < 1 := (y 0).isLt
  have y1 : (y 1).val < 128 := (y 1).isLt
  have y2 : (y 2).val < 256 := (y 2).isLt
  unfold GS
  rw [show ((((Rect.unit (s := S4x128x256) ![h, 0, 0] ![1, 128, 256] inb).emb y) 0).val) = h by show h + 1 * (y 0).val = h; omega,
    show ((((Rect.unit (s := S4x128x256) ![h, 0, 0] ![1, 128, 256] inb).emb y) 1).val) = (y 1).val by show 0 + 1 * (y 1).val = _; omega,
    show ((((Rect.unit (s := S4x128x256) ![h, 0, 0] ![1, 128, 256] inb).emb y) 2).val) = (y 2).val by show 0 + 1 * (y 2).val = _; omega, ← hcd]
  refine (shapeCast_apply (s := S128x256) (t := S1x128x256) _ _ y (ValueIdx.ix2 (y 1) (y 2)) (by
    rw [Shape.rowMajor_val_three, Shape.rowMajor_val_two]
    show (y 1).val * 256 + (y 2).val = ((y 0).val * 128 + (y 1).val) * 256 + (y 2).val; omega)).trans ?_
  exact (at2_of _ (ValueIdx.ix2 (y 1) (y 2)) (y 1).val (y 2).val rfl rfl).trans (stV_apply cd x2 x3 xs h hh 4 _ _ _ y1 y2)

end Cert.Proof.Mx
-- ==== Proof.MxRunA.lean ====
module

public import proofs.«01_k».proof.Proof.MxRetP

@[expose] public section

set_option maxRecDepth 16384
set_option maxHeartbeats 4000000

noncomputable section

namespace Cert.Proof.Mx

open Cert.KernelIdeal Cert.KernelIdeal.Gen
open Idealize.ShloMosaic Idealize.ShloMosaic.ValueIdx
open Cert.Proof.In (at2 at2_of emb2 sit div_coe at2_ld)

section
variable (c : Dev nD) (i : grid0.Coords)
  (arg2 : Memref sig .tc .smem S8 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x512 .bf16) (harg7 : arg7.IsWhole)
  (arg8 : Memref sig .tc .vmem S512x128 .bf16) (harg8 : arg8.IsWhole)
  (arg9 : Memref sig .tc .vmem S512x128 .bf16) (harg9 : arg9.IsWhole)
  (arg10 : Memref sig .tc .vmem S128x128 .bf16) (harg10 : arg10.IsWhole)
  (arg11 : Memref sig .tc .vmem S128x128 .bf16) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S512x1024 .bf16) (harg14 : arg14.IsWhole)
  (arg15 : Memref sig .tc .vmem S512x512 .bf16) (harg15 : arg15.IsWhole)
  (arg16 : Memref sig .tc .vmem S4x128x256 .f32) (harg16 : arg16.IsWhole)
  (hc0 : cond0_0 i)
variable (x0 : Vec Ideal S8 .f32) (x1 : Vec Ideal S512x512 .bf16) (x2 : Vec Ideal S512x512 .bf16) (x3 : Vec Ideal S512x1024 .bf16) (x4 : Vec Ideal S512x1024 .bf16) (x5 : Vec Ideal S512x512 .bf16) (x6 : Vec Ideal S512x128 .bf16) (x7 : Vec Ideal S512x128 .bf16) (x8 : Vec Ideal S128x128 .bf16) (x9 : Vec Ideal S128x128 .bf16) (x10 : Vec Ideal S1x128 .f32) (x11 : Vec Ideal S1x128 .f32)

/-- Every store of a point of case A into the retention block holds the block's values. -/
theorem pieces12_A : ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).1, ∀ x, p.2 x = G12 x1 x2 x3 x4 (k0_pay4 (F := Ideal)) (p.1.emb x) := by
  unfold kernelRun0_A
  dsimp only
  sl_unfold_words
  simp (disch := first | rfl | decide | (intro a; fin_cases a <;> rfl)) only [↓cat2_eq, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, List.forall_mem_cons]
  refine ⟨?_, ?_, ?_, ?_, ?_, ?_, ?_, ?_, ?_, ?_, ?_, ?_, ?_, ?_, ?_, ?_, by intro p hp; exact absurd hp List.not_mem_nil⟩
  · refine ret_piece 3 (by decide) 3 (by decide) x1 x2 x3 x4 (k0_pay4 (F := Ideal)) _ _ ?_
    refine rows_piece _ _ _ _ _ ?_
    exact state_piece 3 (by decide) 3 (by decide) _ cd_named.2.2.2 x2 x3 (k0_pay4 (F := Ideal))
  · refine ret_piece 3 (by decide) 2 (by decide) x1 x2 x3 x4 (k0_pay4 (F := Ideal)) _ _ ?_
    refine rows_piece _ _ _ _ _ ?_
    exact state_piece 3 (by decide) 2 (by decide) _ cd_named.2.2.2 x2 x3 (k0_pay4 (F := Ideal))
  · refine ret_piece 3 (by decide) 1 (by decide) x1 x2 x3 x4 (k0_pay4 (F := Ideal)) _ _ ?_
    refine rows_piece _ _ _ _ _ ?_
    exact state_piece 3 (by decide) 1 (by decide) _ cd_named.2.2.2 x2 x3 (k0_pay4 (F := Ideal))
  · refine ret_piece 3 (by decide) 0 (by decide) x1 x2 x3 x4 (k0_pay4 (F := Ideal)) _ _ ?_
    refine rows_piece _ _ _ _ _ ?_
    exact state_piece 3 (by decide) 0 (by decide) _ cd_named.2.2.2 x2 x3 (k0_pay4 (F := Ideal))
  · refine ret_piece 2 (by decide) 3 (by decide) x1 x2 x3 x4 (k0_pay4 (F := Ideal)) _ _ ?_
    refine rows_piece _ _ _ _ _ ?_
    exact state_piece 2 (by decide) 3 (by decide) _ cd_named.2.2.1 x2 x3 (k0_pay4 (F := Ideal))
  · refine ret_piece 2 (by decide) 2 (by decide) x1 x2 x3 x4 (k0_pay4 (F := Ideal)) _ _ ?_
    refine rows_piece _ _ _ _ _ ?_
    exact state_piece 2 (by decide) 2 (by decide) _ cd_named.2.2.1 x2 x3 (k0_pay4 (F := Ideal))
  · refine ret_piece 2 (by decide) 1 (by decide) x1 x2 x3 x4 (k0_pay4 (F := Ideal)) _ _ ?_
    refine rows_piece _ _ _ _ _ ?_
    exact state_piece 2 (by decide) 1 (by decide) _ cd_named.2.2.1 x2 x3 (k0_pay4 (F := Ideal))
  · refine ret_piece 2 (by decide) 0 (by decide) x1 x2 x3 x4 (k0_pay4 (F := Ideal)) _ _ ?_
    refine rows_piece _ _ _ _ _ ?_
    exact state_piece 2 (by decide) 0 (by decide) _ cd_named.2.2.1 x2 x3 (k0_pay4 (F := Ideal))
  · refine ret_piece 1 (by decide) 3 (by decide) x1 x2 x3 x4 (k0_pay4 (F := Ideal)) _ _ ?_
    refine rows_piece _ _ _ _ _ ?_
    exact state_piece 1 (by decide) 3 (by decide) _ cd_named.2.1 x2 x3 (k0_pay4 (F := Ideal))
  · refine ret_piece 1 (by decide) 2 (by decide) x1 x2 x3 x4 (k0_pay4 (F := Ideal)) _ _ ?_
    refine rows_piece _ _ _ _ _ ?_
    exact state_piece 1 (by decide) 2 (by decide) _ cd_named.2.1 x2 x3 (k0_pay4 (F := Ideal))
  · refine ret_piece 1 (by decide) 1 (by decide) x1 x2 x3 x4 (k0_pay4 (F := Ideal)) _ _ ?_
    refine rows_piece _ _ _ _ _ ?_
    exact state_piece 1 (by decide) 1 (by decide) _ cd_named.2.1 x2 x3 (k0_pay4 (F := Ideal))
  · refine ret_piece 1 (by decide) 0 (by decide) x1 x2 x3 x4 (k0_pay4 (F := Ideal)) _ _ ?_
    refine rows_piece _ _ _ _ _ ?_
    exact state_piece 1 (by decide) 0 (by decide) _ cd_named.2.1 x2 x3 (k0_pay4 (F := Ideal))
  · refine ret_piece 0 (by decide) 3 (by decide) x1 x2 x3 x4 (k0_pay4 (F := Ideal)) _ _ ?_
    refine rows_piece _ _ _ _ _ ?_
    exact state_piece 0 (by decide) 3 (by decide) _ cd_named.1 x2 x3 (k0_pay4 (F := Ideal))
  · refine ret_piece 0 (by decide) 2 (by decide) x1 x2 x3 x4 (k0_pay4 (F := Ideal)) _ _ ?_
    refine rows_piece _ _ _ _ _ ?_
    exact state_piece 0 (by decide) 2 (by decide) _ cd_named.1 x2 x3 (k0_pay4 (F := Ideal))
  · refine ret_piece 0 (by decide) 1 (by decide) x1 x2 x3 x4 (k0_pay4 (F := Ideal)) _ _ ?_
    refine rows_piece _ _ _ _ _ ?_
    exact state_piece 0 (by decide) 1 (by decide) _ cd_named.1 x2 x3 (k0_pay4 (F := Ideal))
  · refine ret_piece 0 (by decide) 0 (by decide) x1 x2 x3 x4 (k0_pay4 (F := Ideal)) _ _ ?_
    refine rows_piece _ _ _ _ _ ?_
    exact state_piece 0 (by decide) 0 (by decide) _ cd_named.1 x2 x3 (k0_pay4 (F := Ideal))

/-- Every store of a point of case A into the state holds the state's values, over a fill with zeros. -/
theorem piecesS_A : ∃ L L' : List (View.Piece (Elt Ideal) S4x128x256 .f32), (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11).2.2.1 = L ++ L'
    ∧ (∀ y, ∃ p ∈ L, y ∈ p.1.set) ∧ ∀ p ∈ L, ∀ x, p.2 x = GS x2 x3 (k0_pay4 (F := Ideal)) (p.1.emb x) := by
  unfold kernelRun0_A
  dsimp only
  sl_unfold_words
  refine ⟨[_, _, _, _], [_], rfl, fun y => View.cover_of_tiledL _ ![1, 128, 256] (by sl_kernel_rfl) y, ?_⟩
  simp (disch := first | rfl | decide | (intro a; fin_cases a <;> rfl)) only [↓cat2_eq, ↓View.readCov_skip, ↓View.readCov_fill, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, List.forall_mem_cons]
  refine ⟨?_, ?_, ?_, ?_, by intro p hp; exact absurd hp List.not_mem_nil⟩
  · exact st_piece 3 (by decide) _ cd_named.2.2.2 x2 x3 (k0_pay4 (F := Ideal)) _
  · exact st_piece 2 (by decide) _ cd_named.2.2.1 x2 x3 (k0_pay4 (F := Ideal)) _
  · exact st_piece 1 (by decide) _ cd_named.2.1 x2 x3 (k0_pay4 (F := Ideal)) _
  · exact st_piece 0 (by decide) _ cd_named.1 x2 x3 (k0_pay4 (F := Ideal)) _

end

end Cert.Proof.Mx
-- ==== Proof.MxRunB.lean ====
module

public import proofs.«01_k».proof.Proof.MxRetP

@[expose] public section

set_option maxRecDepth 16384
set_option maxHeartbeats 4000000

noncomputable section

namespace Cert.Proof.Mx

open Cert.KernelIdeal Cert.KernelIdeal.Gen
open Idealize.ShloMosaic Idealize.ShloMosaic.ValueIdx
open Cert.Proof.In (at2 at2_of emb2 sit div_coe at2_ld)

section
variable (c : Dev nD) (i : grid0.Coords)
  (arg2 : Memref sig .tc .smem S8 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x512 .bf16) (harg7 : arg7.IsWhole)
  (arg8 : Memref sig .tc .vmem S512x128 .bf16) (harg8 : arg8.IsWhole)
  (arg9 : Memref sig .tc .vmem S512x128 .bf16) (harg9 : arg9.IsWhole)
  (arg10 : Memref sig .tc .vmem S128x128 .bf16) (harg10 : arg10.IsWhole)
  (arg11 : Memref sig .tc .vmem S128x128 .bf16) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S512x1024 .bf16) (harg14 : arg14.IsWhole)
  (arg15 : Memref sig .tc .vmem S512x512 .bf16) (harg15 : arg15.IsWhole)
  (arg16 : Memref sig .tc .vmem S4x128x256 .f32) (harg16 : arg16.IsWhole)
  (hc0 : ¬cond0_0 i)
variable (x0 : Vec Ideal S8 .f32) (x1 : Vec Ideal S512x512 .bf16) (x2 : Vec Ideal S512x512 .bf16) (x3 : Vec Ideal S512x1024 .bf16) (x4 : Vec Ideal S512x1024 .bf16) (x5 : Vec Ideal S512x512 .bf16) (x6 : Vec Ideal S512x128 .bf16) (x7 : Vec Ideal S512x128 .bf16) (x8 : Vec Ideal S128x128 .bf16) (x9 : Vec Ideal S128x128 .bf16) (x10 : Vec Ideal S1x128 .f32) (x11 : Vec Ideal S1x128 .f32) (xs0 : Vec Ideal S4x128x256 .f32)

/-- Every store of a point of case B into the retention block holds the block's values. -/
theorem pieces12_B : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).1, ∀ x, p.2 x = G12 x1 x2 x3 x4 xs0 (p.1.emb x) := by
  unfold kernelRun0_B
  dsimp only
  sl_unfold_words
  simp only [↓cat2_eq, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, List.forall_mem_cons]
  refine ⟨?_, ?_, ?_, ?_, ?_, ?_, ?_, ?_, ?_, ?_, ?_, ?_, ?_, ?_, ?_, ?_, by intro p hp; exact absurd hp List.not_mem_nil⟩
  · refine ret_piece 3 (by decide) 3 (by decide) x1 x2 x3 x4 xs0 _ _ ?_
    refine rows_piece _ _ _ _ _ ?_
    exact state_piece 3 (by decide) 3 (by decide) _ cd_named.2.2.2 x2 x3 xs0
  · refine ret_piece 3 (by decide) 2 (by decide) x1 x2 x3 x4 xs0 _ _ ?_
    refine rows_piece _ _ _ _ _ ?_
    exact state_piece 3 (by decide) 2 (by decide) _ cd_named.2.2.2 x2 x3 xs0
  · refine ret_piece 3 (by decide) 1 (by decide) x1 x2 x3 x4 xs0 _ _ ?_
    refine rows_piece _ _ _ _ _ ?_
    exact state_piece 3 (by decide) 1 (by decide) _ cd_named.2.2.2 x2 x3 xs0
  · refine ret_piece 3 (by decide) 0 (by decide) x1 x2 x3 x4 xs0 _ _ ?_
    refine rows_piece _ _ _ _ _ ?_
    exact state_piece 3 (by decide) 0 (by decide) _ cd_named.2.2.2 x2 x3 xs0
  · refine ret_piece 2 (by decide) 3 (by decide) x1 x2 x3 x4 xs0 _ _ ?_
    refine rows_piece _ _ _ _ _ ?_
    exact state_piece 2 (by decide) 3 (by decide) _ cd_named.2.2.1 x2 x3 xs0
  · refine ret_piece 2 (by decide) 2 (by decide) x1 x2 x3 x4 xs0 _ _ ?_
    refine rows_piece _ _ _ _ _ ?_
    exact state_piece 2 (by decide) 2 (by decide) _ cd_named.2.2.1 x2 x3 xs0
  · refine ret_piece 2 (by decide) 1 (by decide) x1 x2 x3 x4 xs0 _ _ ?_
    refine rows_piece _ _ _ _ _ ?_
    exact state_piece 2 (by decide) 1 (by decide) _ cd_named.2.2.1 x2 x3 xs0
  · refine ret_piece 2 (by decide) 0 (by decide) x1 x2 x3 x4 xs0 _ _ ?_
    refine rows_piece _ _ _ _ _ ?_
    exact state_piece 2 (by decide) 0 (by decide) _ cd_named.2.2.1 x2 x3 xs0
  · refine ret_piece 1 (by decide) 3 (by decide) x1 x2 x3 x4 xs0 _ _ ?_
    refine rows_piece _ _ _ _ _ ?_
    exact state_piece 1 (by decide) 3 (by decide) _ cd_named.2.1 x2 x3 xs0
  · refine ret_piece 1 (by decide) 2 (by decide) x1 x2 x3 x4 xs0 _ _ ?_
    refine rows_piece _ _ _ _ _ ?_
    exact state_piece 1 (by decide) 2 (by decide) _ cd_named.2.1 x2 x3 xs0
  · refine ret_piece 1 (by decide) 1 (by decide) x1 x2 x3 x4 xs0 _ _ ?_
    refine rows_piece _ _ _ _ _ ?_
    exact state_piece 1 (by decide) 1 (by decide) _ cd_named.2.1 x2 x3 xs0
  · refine ret_piece 1 (by decide) 0 (by decide) x1 x2 x3 x4 xs0 _ _ ?_
    refine rows_piece _ _ _ _ _ ?_
    exact state_piece 1 (by decide) 0 (by decide) _ cd_named.2.1 x2 x3 xs0
  · refine ret_piece 0 (by decide) 3 (by decide) x1 x2 x3 x4 xs0 _ _ ?_
    refine rows_piece _ _ _ _ _ ?_
    exact state_piece 0 (by decide) 3 (by decide) _ cd_named.1 x2 x3 xs0
  · refine ret_piece 0 (by decide) 2 (by decide) x1 x2 x3 x4 xs0 _ _ ?_
    refine rows_piece _ _ _ _ _ ?_
    exact state_piece 0 (by decide) 2 (by decide) _ cd_named.1 x2 x3 xs0
  · refine ret_piece 0 (by decide) 1 (by decide) x1 x2 x3 x4 xs0 _ _ ?_
    refine rows_piece _ _ _ _ _ ?_
    exact state_piece 0 (by decide) 1 (by decide) _ cd_named.1 x2 x3 xs0
  · refine ret_piece 0 (by decide) 0 (by decide) x1 x2 x3 x4 xs0 _ _ ?_
    refine rows_piece _ _ _ _ _ ?_
    exact state_piece 0 (by decide) 0 (by decide) _ cd_named.1 x2 x3 xs0

/-- Every store of a point of case B into the state holds the state's values. -/
theorem piecesS_B : ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0).2.2.1, ∀ x, p.2 x = GS x2 x3 xs0 (p.1.emb x) := by
  unfold kernelRun0_B
  dsimp only
  sl_unfold_words
  simp only [↓cat2_eq, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, List.forall_mem_cons]
  refine ⟨?_, ?_, ?_, ?_, by intro p hp; exact absurd hp List.not_mem_nil⟩
  · exact st_piece 3 (by decide) _ cd_named.2.2.2 x2 x3 xs0 _
  · exact st_piece 2 (by decide) _ cd_named.2.2.1 x2 x3 xs0 _
  · exact st_piece 1 (by decide) _ cd_named.2.1 x2 x3 xs0 _
  · exact st_piece 0 (by decide) _ cd_named.1 x2 x3 xs0 _

end

end Cert.Proof.Mx
-- ==== Proof.MxArray.lean ====
module

public import proofs.«01_k».proof.Proof.MxRunA
public import proofs.«01_k».proof.Proof.MxRunB
public import Idealize.ShloMosaic.Lib.Pipeline.CanonAppend
public import Idealize.ShloMosaic.Lib.Pipeline.ValueKit.Point

@[expose] public section

set_option maxRecDepth 16384
set_option maxHeartbeats 1000000

noncomputable section

namespace Cert.Proof.Mx

open Cert.KernelIdeal Cert.KernelIdeal.Gen
open Idealize.ShloMosaic Idealize.ShloMosaic.ValueIdx Idealize.ShloMosaic.TcCoe
open Idealize.ShloMosaic.Pipeline (Dat)
open Cert.Proof.In (at2 at2_of at3 at3_of)

section
variable (c : Dev nD) (i : grid0.Coords)
  (arg2 : Memref sig .tc .smem S8 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x512 .bf16) (harg7 : arg7.IsWhole)
  (arg8 : Memref sig .tc .vmem S512x128 .bf16) (harg8 : arg8.IsWhole)
  (arg9 : Memref sig .tc .vmem S512x128 .bf16) (harg9 : arg9.IsWhole)
  (arg10 : Memref sig .tc .vmem S128x128 .bf16) (harg10 : arg10.IsWhole)
  (arg11 : Memref sig .tc .vmem S128x128 .bf16) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S512x1024 .bf16) (harg14 : arg14.IsWhole)
  (arg15 : Memref sig .tc .vmem S512x512 .bf16) (harg15 : arg15.IsWhole)
  (arg16 : Memref sig .tc .vmem S4x128x256 .f32) (harg16 : arg16.IsWhole)
  (hc0 : cond0_0 i)
variable (x0 : Vec Ideal S8 .f32) (x1 : Vec Ideal S512x512 .bf16) (x2 : Vec Ideal S512x512 .bf16) (x3 : Vec Ideal S512x1024 .bf16) (x4 : Vec Ideal S512x1024 .bf16) (x5 : Vec Ideal S512x512 .bf16) (x6 : Vec Ideal S512x128 .bf16) (x7 : Vec Ideal S512x128 .bf16) (x8 : Vec Ideal S128x128 .bf16) (x9 : Vec Ideal S128x128 .bf16) (x10 : Vec Ideal S1x128 .f32) (x11 : Vec Ideal S1x128 .f32)

/-- The retention block a point of case A leaves. -/
theorem out12_A (y : S512x1024.Idx) : (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) y = G12 x1 x2 x3 x4 (k0_pay4 (F := Ideal)) y := by
  unfold out0_A_12
  rw [View.read_writes_junk_apply_eq_canon]
  exact View.canon_apply_of_pieces (G12 x1 x2 x3 x4 (k0_pay4 (F := Ideal))) _ (pieces12_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) y (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 y)

/-- The state a point of case A leaves. -/
theorem soutS_A (y : S4x128x256.Idx) : (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11) y = GS x2 x3 (k0_pay4 (F := Ideal)) y := by
  unfold sout0_A_0
  rw [View.read_writes_junk_apply_eq_canon]
  obtain ⟨L, L', hL, hc, hp⟩ := piecesS_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11
  rw [hL]
  exact View.canon_append_of_pieces (GS x2 x3 (k0_pay4 (F := Ideal))) L' L hp y (hc y)

end

section
variable (c : Dev nD) (i : grid0.Coords)
  (arg2 : Memref sig .tc .smem S8 .f32) (harg2 : arg2.IsWhole)
  (arg3 : Memref sig .tc .vmem S512x512 .bf16) (harg3 : arg3.IsWhole)
  (arg4 : Memref sig .tc .vmem S512x512 .bf16) (harg4 : arg4.IsWhole)
  (arg5 : Memref sig .tc .vmem S512x1024 .bf16) (harg5 : arg5.IsWhole)
  (arg6 : Memref sig .tc .vmem S512x1024 .bf16) (harg6 : arg6.IsWhole)
  (arg7 : Memref sig .tc .vmem S512x512 .bf16) (harg7 : arg7.IsWhole)
  (arg8 : Memref sig .tc .vmem S512x128 .bf16) (harg8 : arg8.IsWhole)
  (arg9 : Memref sig .tc .vmem S512x128 .bf16) (harg9 : arg9.IsWhole)
  (arg10 : Memref sig .tc .vmem S128x128 .bf16) (harg10 : arg10.IsWhole)
  (arg11 : Memref sig .tc .vmem S128x128 .bf16) (harg11 : arg11.IsWhole)
  (arg12 : Memref sig .tc .vmem S1x128 .f32) (harg12 : arg12.IsWhole)
  (arg13 : Memref sig .tc .vmem S1x128 .f32) (harg13 : arg13.IsWhole)
  (arg14 : Memref sig .tc .vmem S512x1024 .bf16) (harg14 : arg14.IsWhole)
  (arg15 : Memref sig .tc .vmem S512x512 .bf16) (harg15 : arg15.IsWhole)
  (arg16 : Memref sig .tc .vmem S4x128x256 .f32) (harg16 : arg16.IsWhole)
  (hc0 : ¬cond0_0 i)
variable (x0 : Vec Ideal S8 .f32) (x1 : Vec Ideal S512x512 .bf16) (x2 : Vec Ideal S512x512 .bf16) (x3 : Vec Ideal S512x1024 .bf16) (x4 : Vec Ideal S512x1024 .bf16) (x5 : Vec Ideal S512x512 .bf16) (x6 : Vec Ideal S512x128 .bf16) (x7 : Vec Ideal S512x128 .bf16) (x8 : Vec Ideal S128x128 .bf16) (x9 : Vec Ideal S128x128 .bf16) (x10 : Vec Ideal S1x128 .f32) (x11 : Vec Ideal S1x128 .f32) (xs0 : Vec Ideal S4x128x256 .f32)

/-- The retention block a point of case B leaves. -/
theorem out12_B (y : S512x1024.Idx) : (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0) y = G12 x1 x2 x3 x4 xs0 y := by
  unfold out0_B_12
  rw [View.read_writes_junk_apply_eq_canon]
  exact View.canon_apply_of_pieces (G12 x1 x2 x3 x4 xs0) _ (pieces12_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0) y (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y)

/-- The state a point of case B leaves. -/
theorem soutS_B (y : S4x128x256.Idx) : (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0) y = GS x2 x3 xs0 y := by
  unfold sout0_B_0
  rw [View.read_writes_junk_apply_eq_canon]
  exact View.canon_apply_of_pieces (GS x2 x3 xs0) _ (piecesS_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0) y (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xs0 y)

end

variable (m : (ℓ : Loc nD τ sig) → Buf (Elt Ideal) ℓ)

/-! ## The input blocks as rows of their arrays -/

/-- Where the blocks of the retention's windows lie. -/
theorem idx_ret : ∀ t : Fin cfg0.N, win0_1.index t = ![t.val, 0] ∧ win0_2.index t = ![t.val, 1]
    ∧ win0_3.index t = ![t.val, 1] ∧ win0_4.index t = ![t.val, 2] ∧ win0_12.index t = ![t.val, 0] :=
  (by decide +kernel : ∀ t : Fin grid0.N, _)

/-- Row `r` of point `t`'s block of input 1: columns 0 and on of the projection. -/
theorem blk1 (c : Dev nD) (t : Fin cfg0.N) (r : ℕ) (hr : r < 512) (k : ℕ) (hk : k < 512) :
    at2 (m := 512) (n := 512) (iblk m c 1 t) r k = at2 (m := 32768) (n := 3072) (V m c main_arg0) (512 * t.val + r) (0 + k) := by
  have ht : t.val < 64 := lt_of_lt_of_eq t.isLt N_0
  have e := idx_ret t
  rw [← at2_of (m := 512) (n := 512) (iblk m c 1 t) (ValueIdx.ix2 ⟨r, hr⟩ ⟨k, hk⟩) r k rfl rfl,
    ← at2_of (m := 32768) (n := 3072) (V m c main_arg0) (ValueIdx.ix2 ⟨512 * t.val + r, by omega⟩ ⟨0 + k, by omega⟩) (512 * t.val + r) (0 + k) rfl rfl]
  blk_simp [iblk]
  refine congrArg (V m c main_arg0) ?_
  blk_ext [e.1, e.2.1, e.2.2.1, e.2.2.2.1]

/-- Row `r` of point `t`'s block of input 2: columns 512 and on of the projection. -/
theorem blk2 (c : Dev nD) (t : Fin cfg0.N) (r : ℕ) (hr : r < 512) (k : ℕ) (hk : k < 512) :
    at2 (m := 512) (n := 512) (iblk m c 2 t) r k = at2 (m := 32768) (n := 3072) (V m c main_arg0) (512 * t.val + r) (512 + k) := by
  have ht : t.val < 64 := lt_of_lt_of_eq t.isLt N_0
  have e := idx_ret t
  rw [← at2_of (m := 512) (n := 512) (iblk m c 2 t) (ValueIdx.ix2 ⟨r, hr⟩ ⟨k, hk⟩) r k rfl rfl,
    ← at2_of (m := 32768) (n := 3072) (V m c main_arg0) (ValueIdx.ix2 ⟨512 * t.val + r, by omega⟩ ⟨512 + k, by omega⟩) (512 * t.val + r) (512 + k) rfl rfl]
  blk_simp [iblk]
  refine congrArg (V m c main_arg0) ?_
  blk_ext [e.1, e.2.1, e.2.2.1, e.2.2.2.1]

/-- Row `r` of point `t`'s block of input 3: columns 1024 and on of the projection. -/
theorem blk3 (c : Dev nD) (t : Fin cfg0.N) (r : ℕ) (hr : r < 512) (k : ℕ) (hk : k < 1024) :
    at2 (m := 512) (n := 1024) (iblk m c 3 t) r k = at2 (m := 32768) (n := 3072) (V m c main_arg0) (512 * t.val + r) (1024 + k) := by
  have ht : t.val < 64 := lt_of_lt_of_eq t.isLt N_0
  have e := idx_ret t
  rw [← at2_of (m := 512) (n := 1024) (iblk m c 3 t) (ValueIdx.ix2 ⟨r, hr⟩ ⟨k, hk⟩) r k rfl rfl,
    ← at2_of (m := 32768) (n := 3072) (V m c main_arg0) (ValueIdx.ix2 ⟨512 * t.val + r, by omega⟩ ⟨1024 + k, by omega⟩) (512 * t.val + r) (1024 + k) rfl rfl]
  blk_simp [iblk]
  refine congrArg (V m c main_arg0) ?_
  blk_ext [e.1, e.2.1, e.2.2.1, e.2.2.2.1]

/-- Row `r` of point `t`'s block of input 4: columns 2048 and on of the projection. -/
theorem blk4 (c : Dev nD) (t : Fin cfg0.N) (r : ℕ) (hr : r < 512) (k : ℕ) (hk : k < 1024) :
    at2 (m := 512) (n := 1024) (iblk m c 4 t) r k = at2 (m := 32768) (n := 3072) (V m c main_arg0) (512 * t.val + r) (2048 + k) := by
  have ht : t.val < 64 := lt_of_lt_of_eq t.isLt N_0
  have e := idx_ret t
  rw [← at2_of (m := 512) (n := 1024) (iblk m c 4 t) (ValueIdx.ix2 ⟨r, hr⟩ ⟨k, hk⟩) r k rfl rfl,
    ← at2_of (m := 32768) (n := 3072) (V m c main_arg0) (ValueIdx.ix2 ⟨512 * t.val + r, by omega⟩ ⟨2048 + k, by omega⟩) (512 * t.val + r) (2048 + k) rfl rfl]
  blk_simp [iblk]
  refine congrArg (V m c main_arg0) ?_
  blk_ext [e.1, e.2.1, e.2.2.1, e.2.2.2.1]

/-! ## The state along a sequence -/

/-- A zero state. -/
theorem pay4_zero (h d e : ℕ) : at3 (l := 4) (m := 128) (n := 256) (k0_pay4 (F := Ideal)) h d e = 0 := by
  unfold at3
  split
  · exact Ideal.ofBits_zero_f32
  · rfl

/-- The state agrees when what it is made of does. -/
theorem stB_congr {cd : EReal} {k k' v v' s s' : ℕ → ℕ → EReal} {d e : ℕ} (n : ℕ) (hk : ∀ r < 128 * n, k r d = k' r d)
    (hv : ∀ r < 128 * n, v r e = v' r e) (hs : s d e = s' d e) : stB cd k v s n d e = stB cd k' v' s' n d e := by
  induction n with
  | zero => exact hs
  | succ n ih =>
    show cd * (_ + _) = cd * (_ + _)
    rw [ih (fun r hr => hk r (by omega)) (fun r hr => hv r (by omega))]
    refine congrArg (fun u : EReal => cd * (_ + u)) (kvs_congr (fun r hr => hk _ (by omega)) (fun r hr => hv _ (by omega)))

/-- The state of a block, started from the state of the blocks before it, is the state of the sequence. -/
theorem stB_add (cd : EReal) (k v s : ℕ → ℕ → EReal) (b j d e : ℕ) :
    stB cd (fun r => k (128 * b + r)) (fun r => v (128 * b + r)) (stB cd k v s b) j d e = stB cd k v s (b + j) d e := by
  induction j with
  | zero => rfl
  | succ j ih =>
    show cd * (_ + _) = cd * (_ + _)
    rw [ih]
    refine congrArg (fun u : EReal => cd * (_ + u)) (kvs_congr (fun r _ => ?_) (fun r _ => ?_))
    · show k (128 * b + (128 * j + r)) d = k (128 * (b + j) + r) d
      exact congrArg (k · d) (by omega)
    · show v (128 * b + (128 * j + r)) e = v (128 * (b + j) + r) e
      exact congrArg (v · e) (by omega)

/-- A column block of the projection along sequence `b`. -/
def colS (c : Dev nD) (b off r d : ℕ) : EReal := at2 (m := 32768) (n := 3072) (V m c main_arg0) (8192 * b + r) (off + d)

/-- The state of head `h` of sequence `b` before chunk `n`. -/
def stS (c : Dev nD) (b h n : ℕ) : ℕ → ℕ → EReal :=
  stB (cdv h) (colS m c b (512 + 128 * h)) (colS m c b (1024 + 256 * h)) (fun _ _ => 0) n

/-- One point's step of the state. -/
theorem st_step (c : Dev nD) (t : Fin cfg0.N) (xs : Vec Ideal S4x128x256 .f32) (h d e : ℕ) (hh : h < 4) (hd : d < 128) (he : e < 256)
    (hs : at3 (l := 4) (m := 128) (n := 256) xs h d e = stS m c (t.val / 16) h (4 * (t.val % 16)) d e) :
    GS (iblk m c 2 t) (iblk m c 3 t) xs (ValueIdx.ix3 (⟨h, hh⟩ : Fin 4) (⟨d, hd⟩ : Fin 128) (⟨e, he⟩ : Fin 256))
      = stS m c (t.val / 16) h (4 * (t.val % 16) + 4) d e := by
  unfold GS stS
  show stB (cdv h) (fun r d => at2 (m := 512) (n := 512) (iblk m c 2 t) r (128 * h + d)) (fun r e => at2 (m := 512) (n := 1024) (iblk m c 3 t) r (256 * h + e))
    (at3 (l := 4) (m := 128) (n := 256) xs h) 4 d e = _
  refine Eq.trans ?_ (stB_add _ _ _ _ _ _ _ _)
  refine stB_congr 4 (fun r hr => ?_) (fun r hr => ?_) hs
  · refine (blk2 m c t r (by omega) (128 * h + d) (by omega)).trans ?_
    unfold colS
    exact congrArg₂ (at2 _) (by omega) (by omega)
  · refine (blk3 m c t r (by omega) (256 * h + e) (by omega)).trans ?_
    unfold colS
    exact congrArg₂ (at2 _) (by omega) (by omega)

/-- What the carried state holds after a point. -/
theorem st_after (c : Dev nD) : ∀ (n : ℕ) (hn : n < cfg0.N) (h d e : ℕ), h < 4 → d < 128 → e < 256 →
    at3 (l := 4) (m := 128) (n := 256) (outsAt0 m c n hn).2.2 h d e = stS m c (n / 16) h (4 * (n % 16) + 4) d e
  | n, hn, h, d, e, hh, hd, he => by
    have key : ∀ xs : Vec Ideal S4x128x256 .f32, at3 (l := 4) (m := 128) (n := 256) xs h d e = stS m c (n / 16) h (4 * (n % 16)) d e →
        GS (iblk m c 2 ⟨n, hn⟩) (iblk m c 3 ⟨n, hn⟩) xs (ValueIdx.ix3 (⟨h, hh⟩ : Fin 4) (⟨d, hd⟩ : Fin 128) (⟨e, he⟩ : Fin 256)) = stS m c (n / 16) h (4 * (n % 16) + 4) d e :=
      fun xs hxs => st_step m c ⟨n, hn⟩ xs h d e hh hd he hxs
    by_cases h0 : n % 16 = 0
    · rw [outsAt0_A m c ⟨n, hn⟩ h0]
      dsimp only
      refine (at3_of (l := 4) (m := 128) (n := 256) _ (ValueIdx.ix3 (⟨h, hh⟩ : Fin 4) (⟨d, hd⟩ : Fin 128) (⟨e, he⟩ : Fin 256)) h d e rfl rfl rfl).symm.trans ?_
      refine (soutS_A c _ _ _ _ _ _ _ _ _ _ _ _ _ _ _ _ _ _ _ _ _ _ _ _ _ _ _ _ _ _ _ _ _ _ _ _ _ _ _ _ _ _ _ _ _).trans (key _ ?_)
      rw [pay4_zero, h0]
      rfl
    · rw [outsAt0_B m c ⟨n, hn⟩ h0]
      dsimp only
      refine (at3_of (l := 4) (m := 128) (n := 256) _ (ValueIdx.ix3 (⟨h, hh⟩ : Fin 4) (⟨d, hd⟩ : Fin 128) (⟨e, he⟩ : Fin 256)) h d e rfl rfl rfl).symm.trans ?_
      refine (soutS_B c _ _ _ _ _ _ _ _ _ _ _ _ _ _ _ _ _ _ _ _ _ _ _ _ _ _ _ _ _ _ _ _ _ _ _ _ _ _ _ _ _ _ _ _ _ _).trans (key _ ?_)
      have hp : n ≠ 0 := fun h => h0 (by rw [h])
      refine (st_after c (n - 1) (Nat.lt_of_le_of_lt (Nat.sub_le _ _) hn) h d e hh hd he).trans ?_
      rw [show (n - 1) / 16 = n / 16 by omega, show 4 * ((n - 1) % 16) + 4 = 4 * (n % 16) by omega]
  termination_by n => n
  decreasing_by omega

/-! ## The retention's array -/

/-- The retained entries agree when what they are made of does. -/
theorem retE_congr {cd : EReal} {q q' k k' v v' g g' s s' : ℕ → ℕ → EReal} {r e : ℕ} (hr : r < 512) (he : e < 256)
    (hq : ∀ r < 512, ∀ d < 128, q r d = q' r d) (hk : ∀ r < 512, ∀ d < 128, k r d = k' r d) (hv : ∀ r < 512, ∀ e < 256, v r e = v' r e)
    (hg : ∀ r < 512, ∀ e < 256, g r e = g' r e) (hs : ∀ d < 128, ∀ e < 256, s d e = s' d e) : retE cd q k v g s r e = retE cd q' k' v' g' s' r e := by
  unfold retE
  refine congrArg₂ (· * ·) (nrmr_congr rfl he fun a ha => rett_congr rfl (by omega) ha ?_ ?_ ?_ ?_) (hg r hr e he)
  · exact fun i hi d hd => hq _ (by omega) d hd
  · exact fun i hi d hd => hk _ (by omega) d hd
  · exact fun i hi d hd => hv _ (by omega) d hd
  · exact fun d hd a ha => stB_congr _ (fun i hi => hk i (by omega) d hd) (fun i hi => hv i (by omega) a ha) (hs d hd a ha)

/-- A block's retained entries are the sequence's. -/
theorem retE_add (cd : EReal) (q k v g s : ℕ → ℕ → EReal) (b r e : ℕ) :
    retE cd (fun r => q (512 * b + r)) (fun r => k (512 * b + r)) (fun r => v (512 * b + r)) (fun r => g (512 * b + r)) (stB cd k v s (4 * b)) r e
      = retE cd q k v g s (512 * b + r) e := by
  unfold retE
  have e0 : (512 * b + r) / 128 = 4 * b + r / 128 := by omega
  have e1 : (512 * b + r) % 128 = r % 128 := by omega
  have e2 : ∀ i, 512 * b + (r / 128 * 128 + i) = (4 * b + r / 128) * 128 + i := fun i => by omega
  have e3 : stB cd (fun r => k (512 * b + r)) (fun r => v (512 * b + r)) (stB cd k v s (4 * b)) (r / 128) = stB cd k v s (4 * b + r / 128) := by
    funext d e
    rw [show 512 * b = 128 * (4 * b) by omega]
    exact stB_add cd k v s (4 * b) (r / 128) d e
  rw [e0, e1, e3]
  simp only [e2]

/-- The retained entry in row `i 0`, column `i 1` of the array, from the projection. -/
def A12 (c : Dev nD) (i : S32768x1024.Idx) : EReal :=
  retE (cdv ((i 1).val / 256)) (colS m c ((i 0).val / 8192) (128 * ((i 1).val / 256))) (colS m c ((i 0).val / 8192) (512 + 128 * ((i 1).val / 256)))
    (colS m c ((i 0).val / 8192) (1024 + 256 * ((i 1).val / 256))) (colS m c ((i 0).val / 8192) (2048 + 256 * ((i 1).val / 256)))
    (fun _ _ => 0) ((i 0).val % 8192) ((i 1).val % 256)

/-- A point's retention block, over the sequence's state, is rows of the array. -/
theorem blk_ret (c : Dev nD) (t : Fin cfg0.N) (xs : Vec Ideal S4x128x256 .f32)
    (hs : ∀ h d e : ℕ, h < 4 → d < 128 → e < 256 → at3 (l := 4) (m := 128) (n := 256) xs h d e = stS m c (t.val / 16) h (4 * (t.val % 16)) d e)
    (y : S512x1024.Idx) (z : S32768x1024.Idx) (h0 : (z 0).val = 512 * t.val + (y 0).val) (h1 : (z 1).val = (y 1).val) :
    G12 (iblk m c 1 t) (iblk m c 2 t) (iblk m c 3 t) (iblk m c 4 t) xs y = A12 m c z := by
  have y0 : (y 0).val < 512 := (y 0).isLt
  have y1 : (y 1).val < 1024 := (y 1).isLt
  have ht : t.val < 64 := lt_of_lt_of_eq t.isLt N_0
  unfold G12 A12
  rw [h0, h1, show (512 * t.val + (y 0).val) / 8192 = t.val / 16 by omega,
    show (512 * t.val + (y 0).val) % 8192 = 512 * (t.val % 16) + (y 0).val by omega]
  refine Eq.trans ?_ (retE_add _ _ _ _ _ _ _ _ _)
  refine retE_congr y0 (by omega) (fun r hr d hd => ?_) (fun r hr d hd => ?_) (fun r hr e he => ?_) (fun r hr e he => ?_) (fun d hd e he => ?_)
  · refine (blk1 m c t r hr _ (by omega)).trans ?_
    unfold colS
    exact congrArg₂ (at2 _) (by omega) (by omega)
  · refine (blk2 m c t r hr _ (by omega)).trans ?_
    unfold colS
    exact congrArg₂ (at2 _) (by omega) (by omega)
  · refine (blk3 m c t r hr _ (by omega)).trans ?_
    unfold colS
    exact congrArg₂ (at2 _) (by omega) (by omega)
  · refine (blk4 m c t r hr _ (by omega)).trans ?_
    unfold colS
    exact congrArg₂ (at2 _) (by omega) (by omega)
  · exact hs _ d e (by omega) hd he

/-- The retention's array when the call ends. -/
theorem arr12 (c : Dev nD) : (dats m 0 c).arrAt 12 cfg0.N = A12 m c := by
  refine (dats m 0 c).arrAt_eq_of_covers 12 _ (by decide +kernel) fun t hf y => ?_
  have ht : t.val < 64 := lt_of_lt_of_eq t.isLt N_0
  have e := idx_ret t
  have h0 : (((cfg0.win 12).blk t).view.emb y 0 : ℕ) = 512 * t.val + (y 0).val := by
    blk_simp [e.2.2.2.2]
    omega
  have h1 : (((cfg0.win 12).blk t).view.emb y 1 : ℕ) = (y 1).val := by
    blk_simp [e.2.2.2.2]
  by_cases hz : t.val % 16 = 0
  · refine (congrFun (Value.flushed12_A m c t hz) y).trans ?_
    refine (out12_A c _ _ _ _ _ _ _ _ _ _ _ _ _ _ _ _ _ _ _ _ _ _ _ _ _ _ _ _ _ _ _ _ _ _ _ _ _ _ _ _ _ _ _ _ y).trans ?_
    refine blk_ret m c t _ (fun h d e hh hd he => ?_) y _ h0 h1
    rw [pay4_zero, hz]
    rfl
  · refine (congrFun (Value.flushed12_B m c t hz) y).trans ?_
    refine (out12_B c _ _ _ _ _ _ _ _ _ _ _ _ _ _ _ _ _ _ _ _ _ _ _ _ _ _ _ _ _ _ _ _ _ _ _ _ _ _ _ _ _ _ _ _ _ y).trans ?_
    refine blk_ret m c t _ (fun h d e hh hd he => ?_) y _ h0 h1
    refine (st_after m c (t.val - 1) _ h d e hh hd he).trans ?_
    rw [show (t.val - 1) / 16 = t.val / 16 by omega, show 4 * ((t.val - 1) % 16) + 4 = 4 * (t.val % 16) by omega]

end Cert.Proof.Mx
-- ==== Proof.MxAlg.lean ====
module

public import proofs.«01_k».proof.Proof.MxArray
public import proofs.«01_k».proof.Proof.InRef

@[expose] public section

set_option maxRecDepth 16384
set_option maxHeartbeats 1000000

noncomputable section

namespace Cert.Proof.Mx

open Idealize.ShloMosaic
open Cert.Proof.In (lgc)

/-! ## Powers of a decay, and positive factors through sums -/

/-- The decay of head `h` over `n` places. -/
def pw (h n : ℕ) : ℝ := ((2 ^ (5 + h) - 1) / 2 ^ (5 + h)) ^ n

theorem base_pos (h : ℕ) : (0 : ℝ) < (2 ^ (5 + h) - 1) / 2 ^ (5 + h) := by
  have q : (1 : ℝ) < 2 ^ (5 + h) := one_lt_pow₀ (by norm_num) (by omega)
  exact div_pos (by linarith) (by positivity)

theorem pw_pos (h n : ℕ) : 0 < pw h n := pow_pos (base_pos h) n

theorem pw_add (h a b : ℕ) : pw h a * pw h b = pw h (a + b) := (pow_add _ a b).symm

/-- The exponential of a multiple of the logarithm of the decay. -/
theorem exp_lgc (h n : ℕ) : Ideal.exp (lgc h * ((n : ℝ) : EReal)) = ((pw h n : ℝ) : EReal) := by
  unfold lgc
  rw [← EReal.coe_mul]
  show ((Real.exp _ : ℝ) : EReal) = _
  rw [mul_comm, Real.exp_nat_mul, Real.exp_log (base_pos h)]
  rfl

/-- Division by a positive number. -/
theorem div_pos_coe (a : EReal) (r : ℝ) (hr : r ≠ 0) : Ideal.div a (r : EReal) = a * ((r⁻¹ : ℝ) : EReal) := by
  unfold Ideal.div
  rw [if_neg (by exact_mod_cast hr), ← EReal.coe_inv]

/-- A nonnegative number comes out of a sum. -/
theorem sum_mul_coe {n : ℕ} (f : Fin n → EReal) (r : ℝ) (hr : 0 ≤ r) : ∑ i, f i * (r : EReal) = (∑ i, f i) * (r : EReal) := by
  induction n with
  | zero => simp
  | succ n ih =>
    rw [Fin.sum_univ_succ, Fin.sum_univ_succ, ih (fun i => f i.succ),
      EReal.right_distrib_of_nonneg_of_ne_top (by exact_mod_cast hr) (EReal.coe_ne_top r)]

theorem coe_mul_add (r : ℝ) (hr : 0 ≤ r) (a b : EReal) : (r : EReal) * (a + b) = (r : EReal) * a + (r : EReal) * b :=
  EReal.left_distrib_of_nonneg_of_ne_top (by exact_mod_cast hr) (EReal.coe_ne_top r) a b

theorem coe_mul_sum {n : ℕ} (f : ℕ → EReal) (r : ℝ) (hr : 0 ≤ r) : ∑ i ∈ Finset.range n, (r : EReal) * f i = (r : EReal) * ∑ i ∈ Finset.range n, f i := by
  induction n with
  | zero => simp
  | succ n ih => rw [Finset.sum_range_succ, Finset.sum_range_succ, ih, coe_mul_add r hr]

/-- The decays of the two places and of the distance between them cancel out of a score. -/
theorem score_eq (h i j : ℕ) (q k : Fin 128 → EReal) :
    (∑ d, Ideal.div (q d) ((pw h (i + 1) : ℝ) : EReal) * (k d * ((pw h (j + 1) : ℝ) : EReal)))
        * (if j ≤ i then ((pw h (i - j) : ℝ) : EReal) else 0)
      = if j ≤ i then ∑ d, q d * k d else 0 := by
  split
  · rename_i hij
    have e : ∀ d, Ideal.div (q d) ((pw h (i + 1) : ℝ) : EReal) * (k d * ((pw h (j + 1) : ℝ) : EReal))
        = q d * k d * (((pw h (i + 1))⁻¹ * pw h (j + 1) : ℝ) : EReal) := fun d => by
      rw [div_pos_coe _ _ (pw_pos h _).ne', mul_mul_mul_comm, EReal.coe_mul]
    rw [Finset.sum_congr rfl fun d _ => e d, sum_mul_coe _ _ (mul_nonneg (inv_nonneg.mpr (pw_pos h _).le) (pw_pos h _).le), mul_assoc, ← EReal.coe_mul,
      mul_assoc, pw_add, show j + 1 + (i - j) = i + 1 by omega, inv_mul_cancel₀ (pw_pos h _).ne']
    simp
  · exact mul_zero _

/-- The keys' decays make a whole chunk's decay. -/
theorem kv_eq (h : ℕ) (k v : Fin 128 → EReal) :
    ∑ j, k j * ((pw h (j.val + 1) : ℝ) : EReal) * ((pw h (127 - j.val) : ℝ) : EReal) * v j = cdv h * ∑ j, k j * v j := by
  have e : ∀ j : Fin 128, k j * ((pw h (j.val + 1) : ℝ) : EReal) * ((pw h (127 - j.val) : ℝ) : EReal) * v j = k j * v j * ((pw h 128 : ℝ) : EReal) := fun j => by
    rw [mul_assoc (k j), ← EReal.coe_mul, pw_add, show j.val + 1 + (127 - j.val) = 128 by omega, mul_right_comm]
  rw [Finset.sum_congr rfl fun j _ => e j, sum_mul_coe _ _ (pw_pos h _).le, mul_comm]
  rfl

/-- The state as the sum of every chunk before, decayed by the whole chunks between. -/
theorem state_range (h : ℕ) (k v : ℕ → ℕ → EReal) (d e n : ℕ) :
    ∑ p ∈ Finset.range n, cdv h * kvs (fun r => k (128 * p + r)) (fun r => v (128 * p + r)) d e * ((pw h (128 * (n - p - 1)) : ℝ) : EReal)
      = stB (cdv h) k v (fun _ _ => 0) n d e := by
  induction n with
  | zero => rfl
  | succ n ih =>
    rw [Finset.sum_range_succ, show n + 1 - n - 1 = 0 by omega]
    show _ = cdv h * (_ + _)
    have hc : cdv h = ((pw h 128 : ℝ) : EReal) := rfl
    rw [← ih, hc, coe_mul_add _ (pw_pos h _).le, ← coe_mul_sum _ _ (pw_pos h _).le]
    refine congrArg₂ (· + ·) (Finset.sum_congr rfl fun p hp => ?_) ?_
    · have hp' : p < n := Finset.mem_range.mp hp
      rw [show n + 1 - p - 1 = 1 + (n - p - 1) by omega, Nat.mul_add, ← pw_add, EReal.coe_mul]
      show _ * (((pw h 128 : ℝ) : EReal) * _) = _
      rw [mul_left_comm]
    · show _ * ((pw h 0 : ℝ) : EReal) = _
      rw [show pw h 0 = 1 from pow_zero _]
      simp

/-- The same over all the chunks, those from the chunk on weighing nothing. -/
theorem state_sum (h : ℕ) (k v : ℕ → ℕ → EReal) (d e n : ℕ) (hn : n < 64) :
    ∑ p : Fin 64, cdv h * kvs (fun r => k (128 * p.val + r)) (fun r => v (128 * p.val + r)) d e
        * (if p.val < n then ((pw h (128 * (n - p.val - 1)) : ℝ) : EReal) else 0)
      = stB (cdv h) k v (fun _ _ => 0) n d e := by
  rw [← state_range, Fin.sum_univ_eq_sum_range (fun p => cdv h * kvs (fun r => k (128 * p + r)) (fun r => v (128 * p + r)) d e
        * (if p < n then ((pw h (128 * (n - p - 1)) : ℝ) : EReal) else 0)) 64]
  symm
  refine (Finset.sum_congr rfl fun p hp => ?_).trans (Finset.sum_subset (Finset.range_subset_range.mpr (by omega)) fun p _ hp => ?_)
  · rw [if_pos (Finset.mem_range.mp hp)]
  · rw [if_neg (fun h => hp (Finset.mem_range.mpr h)), mul_zero]

/-- Growth taken off and put back. -/
theorem undo (h n : ℕ) (a : EReal) : Ideal.div a ((pw h n : ℝ) : EReal) * ((pw h n : ℝ) : EReal) = a := by
  rw [div_pos_coe _ _ (pw_pos h _).ne', mul_assoc, ← EReal.coe_mul, inv_mul_cancel₀ (pw_pos h _).ne']
  simp

end Cert.Proof.Mx
-- ==== Proof.MxRef.lean ====
module

public import proofs.«01_k».proof.Proof.MxAlg
public import proofs.«01_k».proof.Proof.Gen.ReferenceIdeal.Read
public import Idealize.ShloMosaic.Lib.IdealHost

@[expose] public section

set_option pp.maxSteps 600
set_option maxRecDepth 16384
set_option maxHeartbeats 1000000

noncomputable section

namespace Cert.Proof.Mx

open Cert.ReferenceIdeal Cert.ReferenceIdeal.Read
open Idealize.ShloMosaic Idealize.ShloMosaic.TcCoe
open Cert.Proof.In (at2 at2_of at3 at3_of lgc sit two_bits five_bits ref_lg div_coe)

variable (x0 : (⟨S32768x3072, .bf16⟩ : BufTy).Contents (Elt Ideal))

/-- A column of the projection along sequence `b`. -/
def colR (b off r d : ℕ) : EReal := at2 (m := 32768) (n := 3072) x0 (8192 * b + r) (off + d)

/-- The bits of 127. -/
theorem b127 : (Ideal.ofBits .f32 1123942400#32 : EReal) = ((127 : ℝ) : EReal) := by
  simp [Ideal.ofBits, Ideal.ieee, -EReal.coe_mul]; norm_num

/-- The bits of 128. -/
theorem b128 : (Ideal.ofBits .f32 1124073472#32 : EReal) = ((128 : ℝ) : EReal) := by
  simp [Ideal.ofBits, Ideal.ieee, -EReal.coe_mul]; norm_num

/-- The growth of place `i` of a chunk. -/
theorem ref22 (i h : ℕ) (hi : i < 128) (hh : h < 4) :
    val_main_v22 (F := Ideal) (Idealize.ShloMosaic.ix2 ⟨i, hi⟩ ⟨h, hh⟩) = ((pw h (i + 1) : ℝ) : EReal) := by
  pointwise [val_main_v22, val_main_v21, val_main_v19, val_main_v20, val_main_v15, val_main_v18, val_main_v12, val_main_v17, val_main_v11, val_main_v14, val_main_v16, val_main_v10, val_main_v13, val_main_cst_1, val_main_v9, val_main_v8, val_main_cst_0, val_main_v7, val_main_v6, val_main_cst, val_main_v5]
  rw [sit i (by omega), show (1 : EReal) = ((1 : ℝ) : EReal) by norm_cast, ← EReal.coe_add, ← exp_lgc]
  refine congrArg₂ (fun a b : EReal => Ideal.exp (a * b)) (ref_lg h hh) ?_
  push_cast
  rfl

/-- The growth of place `i` of a chunk, as the queries take it. -/
theorem ref110 (i h : ℕ) (hi : i < 128) (hh : h < 4) :
    val_main_v110 (F := Ideal) (Idealize.ShloMosaic.ix2 ⟨i, hi⟩ ⟨h, hh⟩) = ((pw h (i + 1) : ℝ) : EReal) := by
  pointwise [val_main_v110, val_main_v109, val_main_v107, val_main_v108, val_main_v103, val_main_v106, val_main_v38, val_main_v105, val_main_v37, val_main_v40, val_main_v104, val_main_v36, val_main_v39, val_main_cst_13, val_main_v35, val_main_v34, val_main_cst_3, val_main_v33, val_main_v32, val_main_cst_2, val_main_v31]
  rw [sit i (by omega), show (1 : EReal) = ((1 : ℝ) : EReal) by norm_cast, ← EReal.coe_add, ← exp_lgc]
  refine congrArg₂ (fun a b : EReal => Ideal.exp (a * b)) (ref_lg h hh) ?_
  push_cast
  rfl

/-- The decay from place `j` to the chunk's last. -/
theorem ref72 (j h : ℕ) (hj : j < 128) (hh : h < 4) :
    val_main_v72 (F := Ideal) (Idealize.ShloMosaic.ix2 ⟨j, hj⟩ ⟨h, hh⟩) = ((pw h (127 - j) : ℝ) : EReal) := by
  pointwise [val_main_v72, val_main_v71, val_main_v69, val_main_v70, val_main_v65, val_main_v68, val_main_v38, val_main_v67, val_main_v37, val_main_v66, val_main_v40, val_main_v36, val_main_cst_7, val_main_v39, val_main_v35, val_main_v34, val_main_cst_3, val_main_v33, val_main_v32, val_main_cst_2, val_main_v31]
  rw [sit j (by omega), b127, ← EReal.coe_sub, show (127 : ℝ) - (j : ℝ) = ((127 - j : ℕ) : ℝ) by rw [Nat.cast_sub (by omega)]; norm_num, ← exp_lgc]
  exact congrArg (fun a : EReal => Ideal.exp (a * _)) (ref_lg h hh)

/-- The decay between two places of a chunk. -/
theorem ref58 (h i j : ℕ) (hh : h < 4) (hi : i < 128) (hj : j < 128) :
    val_main_v58 (F := Ideal) (Idealize.ShloMosaic.ix3 ⟨h, hh⟩ ⟨i, hi⟩ ⟨j, hj⟩) = if j ≤ i then ((pw h (i - j) : ℝ) : EReal) else 0 := by
  pointwise [val_main_v58, val_main_v56, val_main_v53, val_main_v57, val_main_v55, val_main_v52, val_main_cst_6, val_main_v45, val_main_v54, val_main_v50, val_main_v51, val_main_v43, val_main_v44, val_main_cst_5, val_main_v46, val_main_v49, val_main_v41, val_main_v42, val_main_v38, val_main_v48, val_main_v40, val_main_v37, val_main_v47, val_main_v39, val_main_v36, val_main_cst_4, val_main_v35, val_main_v34, val_main_cst_3, val_main_v33, val_main_v32, val_main_cst_2, val_main_v31]
  rw [sit i (by omega), sit j (by omega), ← EReal.coe_sub]
  by_cases hij : j ≤ i
  · have e : ((i : ℝ) - (j : ℝ)) = ((i - j : ℕ) : ℝ) := by push_cast [hij]; ring
    have p : (0 : EReal) ≤ (((i : ℝ) - (j : ℝ) : ℝ) : EReal) := by rw [e]; exact_mod_cast Nat.zero_le _
    rw [if_pos hij, if_pos p, max_eq_left p, e, ← exp_lgc]
    exact congrArg (fun a : EReal => Ideal.exp (a * _)) (ref_lg h hh)
  · rw [if_neg hij, if_neg]
    intro p
    have p' : (0 : ℝ) ≤ (i : ℝ) - (j : ℝ) := by exact_mod_cast p
    exact hij (by exact_mod_cast sub_nonneg.mp p')

/-- The decay over the whole chunks between two chunks. -/
theorem ref100 (h n p : ℕ) (hh : h < 4) (hn : n < 64) (hp : p < 64) :
    val_main_v100 (F := Ideal) (Idealize.ShloMosaic.ix3 ⟨h, hh⟩ ⟨n, hn⟩ ⟨p, hp⟩) = if p < n then ((pw h (128 * (n - p - 1)) : ℝ) : EReal) else 0 := by
  pointwise [val_main_v100, val_main_v98, val_main_v95, val_main_v99, val_main_v97, val_main_v94, val_main_cst_12, val_main_v85, val_main_v96, val_main_v92, val_main_v93, val_main_v83, val_main_v84, val_main_cst_11, val_main_v86, val_main_v91, val_main_v81, val_main_v82, val_main_cst_8, val_main_v38, val_main_v90, val_main_v79, val_main_v80, val_main_v37, val_main_v89, val_main_v88, val_main_v78, val_main_v36, val_main_cst_10, val_main_v87, val_main_v77, val_main_v35, val_main_v34, val_main_cst_9, val_main_cst_3, val_main_v33, val_main_v32, val_main_cst_2, val_main_v31]
  rw [sit n (by omega), sit p (by omega), b128, show (1 : EReal) = ((1 : ℝ) : EReal) by norm_cast, ← EReal.coe_sub, ← EReal.coe_sub]
  by_cases hpn : p < n
  · have e : ((n : ℝ) - (p : ℝ) - 1) = ((n - p - 1 : ℕ) : ℝ) := by
      rw [Nat.cast_sub (by omega), Nat.cast_sub (by omega)]; norm_num
    have q : (0 : EReal) ≤ (((n : ℝ) - (p : ℝ) - 1 : ℝ) : EReal) := by rw [e]; exact_mod_cast Nat.zero_le _
    rw [if_pos hpn, if_pos q, max_eq_left q, e, ← EReal.coe_mul, show (128 : ℝ) * ((n - p - 1 : ℕ) : ℝ) = ((128 * (n - p - 1) : ℕ) : ℝ) by push_cast; rfl, ← exp_lgc]
    exact congrArg (fun a : EReal => Ideal.exp (a * _)) (ref_lg h hh)
  · rw [if_neg hpn, if_neg]
    intro q
    have q' : (0 : ℝ) ≤ (n : ℝ) - (p : ℝ) - 1 := by exact_mod_cast q
    have q'' : (p : ℝ) + 1 ≤ (n : ℝ) := by linarith
    exact hpn (by exact_mod_cast q'')

/-- The queries with their growth taken off. -/
theorem ref26 (b n i h d : ℕ) (hb : b < 4) (hn : n < 64) (hi : i < 128) (hh : h < 4) (hd : d < 128) :
    val_main_v26 (F := Ideal) x0 (Idealize.ShloMosaic.ix5 ⟨b, hb⟩ ⟨n, hn⟩ ⟨i, hi⟩ ⟨h, hh⟩ ⟨d, hd⟩) = Ideal.div (colR x0 b (128 * h) (128 * n + i) d) ((pw h (i + 1) : ℝ) : EReal) := by
  pointwise [val_main_v26, val_main_v24, val_main_v25, val_main_v1, val_main_v23, val_main_v0]
  rw [ref22 i h hi hh]
  exact congrArg (fun a : EReal => Ideal.div a _) (at2_of (m := 32768) (n := 3072) x0 _ _ _ (by show b * 8192 + n * 128 + i = 8192 * b + (128 * n + i); omega) (by show h * 128 + d = 128 * h + d; omega))

/-- The keys with their growth put back. -/
theorem ref29 (b n i h d : ℕ) (hb : b < 4) (hn : n < 64) (hi : i < 128) (hh : h < 4) (hd : d < 128) :
    val_main_v29 (F := Ideal) x0 (Idealize.ShloMosaic.ix5 ⟨b, hb⟩ ⟨n, hn⟩ ⟨i, hi⟩ ⟨h, hh⟩ ⟨d, hd⟩) = colR x0 b (512 + 128 * h) (128 * n + i) d * ((pw h (i + 1) : ℝ) : EReal) := by
  pointwise [val_main_v29, val_main_v27, val_main_v28, val_main_v2, val_main_v23, val_main_v0]
  rw [ref22 i h hi hh]
  exact congrArg (fun a : EReal => a * _) (at2_of (m := 32768) (n := 3072) x0 _ _ _ (by show b * 8192 + n * 128 + i = 8192 * b + (128 * n + i); omega) (by show 512 + (h * 128 + d) = 512 + 128 * h + d; omega))

/-- The values. -/
theorem ref30 (b n i h e : ℕ) (hb : b < 4) (hn : n < 64) (hi : i < 128) (hh : h < 4) (he : e < 256) :
    val_main_v30 (F := Ideal) x0 (Idealize.ShloMosaic.ix5 ⟨b, hb⟩ ⟨n, hn⟩ ⟨i, hi⟩ ⟨h, hh⟩ ⟨e, he⟩) = colR x0 b (1024 + 256 * h) (128 * n + i) e := by
  pointwise [val_main_v30, val_main_v3, val_main_v0]
  exact congrArg (fun a : EReal => a) (at2_of (m := 32768) (n := 3072) x0 _ _ _ (by show b * 8192 + n * 128 + i = 8192 * b + (128 * n + i); omega) (by show 1024 + (h * 256 + e) = 1024 + 256 * h + e; omega))

/-- The chunk's own part of the retention. -/
theorem ref64 (b n i h e : ℕ) (hb : b < 4) (hn : n < 64) (hi : i < 128) (hh : h < 4) (he : e < 256) :
    val_main_v64 (F := Ideal) x0 (Idealize.ShloMosaic.ix5 ⟨b, hb⟩ ⟨n, hn⟩ ⟨i, hi⟩ ⟨h, hh⟩ ⟨e, he⟩) = ∑ j : Fin 128, scr (fun r => colR x0 b (128 * h) (128 * n + r)) (fun r => colR x0 b (512 + 128 * h) (128 * n + r)) i j.val * (fun r => colR x0 b (1024 + 256 * h) (128 * n + r)) j.val e := by
  pointwise [val_main_v64, val_main_v63, val_main_v62, val_main_v59, val_main_v61, val_main_v60]
  refine Finset.sum_congr rfl fun j _ => (mul_comm _ _).trans (congrArg₂ (· * ·) ?_ (ref30 x0 b n j.val h e hb hn j.isLt hh he))
  unfold scr
  refine Eq.trans ?_ (score_eq h i j.val _ _)
  exact congrArg₂ (· * ·) (Finset.sum_congr rfl fun d _ => congrArg₂ (· * ·) (ref26 x0 b n i h d.val hb hn hi hh d.isLt) (ref29 x0 b n j.val h d.val hb hn j.isLt hh d.isLt))
    (ref58 h i j.val hh hi j.isLt)

/-- A chunk's decayed keys times its values. -/
theorem ref76 (b n h d e : ℕ) (hb : b < 4) (hn : n < 64) (hh : h < 4) (hd : d < 128) (he : e < 256) :
    val_main_v76 (F := Ideal) x0 (Idealize.ShloMosaic.ix5 ⟨b, hb⟩ ⟨n, hn⟩ ⟨h, hh⟩ ⟨d, hd⟩ ⟨e, he⟩) = cdv h * kvs (fun r => colR x0 b (512 + 128 * h) (128 * n + r)) (fun r => colR x0 b (1024 + 256 * h) (128 * n + r)) d e := by
  pointwise [val_main_v76, val_main_v75, val_main_v74, val_main_v73]
  unfold kvs
  refine Eq.trans ?_ (kv_eq h _ _)
  exact Finset.sum_congr rfl fun j _ => congrArg₂ (· * ·) (congrArg₂ (· * ·) (ref29 x0 b n j.val h d hb hn j.isLt hh hd) (ref72 j.val h j.isLt hh)) (ref30 x0 b n j.val h e hb hn j.isLt hh he)

/-- The state a chunk finds. -/
theorem ref102 (b n h d e : ℕ) (hb : b < 4) (hn : n < 64) (hh : h < 4) (hd : d < 128) (he : e < 256) :
    val_main_v102 (F := Ideal) x0 (Idealize.ShloMosaic.ix5 ⟨b, hb⟩ ⟨n, hn⟩ ⟨h, hh⟩ ⟨d, hd⟩ ⟨e, he⟩) = stB (cdv h) (colR x0 b (512 + 128 * h)) (colR x0 b (1024 + 256 * h)) (fun _ _ => 0) n d e := by
  pointwise [val_main_v102, val_main_v101]
  rw [← state_sum h _ _ d e n hn]
  exact Finset.sum_congr rfl fun p _ => congrArg₂ (· * ·) (ref76 x0 b p.val h d e hb p.isLt hh hd he) (ref100 h n p.val hh hn p.isLt)

/-- The state's part of the retention. -/
theorem ref115 (b n i h e : ℕ) (hb : b < 4) (hn : n < 64) (hi : i < 128) (hh : h < 4) (he : e < 256) :
    val_main_v115 (F := Ideal) x0 (Idealize.ShloMosaic.ix5 ⟨b, hb⟩ ⟨n, hn⟩ ⟨i, hi⟩ ⟨h, hh⟩ ⟨e, he⟩) = ∑ d : Fin 128, (fun r => colR x0 b (128 * h) (128 * n + r)) i d.val * stB (cdv h) (colR x0 b (512 + 128 * h)) (colR x0 b (1024 + 256 * h)) (fun _ _ => 0) n d.val e := by
  pointwise [val_main_v115, val_main_v114, val_main_v113, val_main_v112, val_main_v111]
  refine Finset.sum_congr rfl fun d _ => (mul_comm _ _).trans (congrArg₂ (· * ·) ?_ (ref102 x0 b n h d.val e hb hn hh d.isLt he))
  rw [ref110 i h hi hh]
  exact (congrArg (· * _) (ref26 x0 b n i h d.val hb hn hi hh d.isLt)).trans (undo h (i + 1) _)

/-- The retention. -/
theorem ref116 (b n i h e : ℕ) (hb : b < 4) (hn : n < 64) (hi : i < 128) (hh : h < 4) (he : e < 256) :
    val_main_v116 (F := Ideal) x0 (Idealize.ShloMosaic.ix5 ⟨b, hb⟩ ⟨n, hn⟩ ⟨i, hi⟩ ⟨h, hh⟩ ⟨e, he⟩) = rett (fun r => colR x0 b (128 * h) (128 * n + r)) (fun r => colR x0 b (512 + 128 * h) (128 * n + r)) (fun r => colR x0 b (1024 + 256 * h) (128 * n + r)) (stB (cdv h) (colR x0 b (512 + 128 * h)) (colR x0 b (1024 + 256 * h)) (fun _ _ => 0) n) i e := by
  pointwise [val_main_v116]
  unfold rett
  exact congrArg₂ (· + ·) (ref64 x0 b n i h e hb hn hi hh he) (ref115 x0 b n i h e hb hn hi hh he)

/-- The norm of a row of a head, in the reference's order. -/
theorem nrm_of (f : Fin 256 → EReal) (g : ℕ → EReal) (hf : ∀ x : Fin 256, f x = g x.val) (e : ℕ) (he : e < 256) :
    (f ⟨e, he⟩ - Ideal.div (∑ x, f x) (Ideal.ofBits .f32 0x43800000#32))
      * Ideal.rsqrt (Ideal.div (∑ x, (f x - Ideal.div (∑ y, f y) (Ideal.ofBits .f32 0x43800000#32))
          * (f x - Ideal.div (∑ y, f y) (Ideal.ofBits .f32 0x43800000#32))) (Ideal.ofBits .f32 0x43800000#32)
        + Ideal.ofBits .f32 0x358637BD#32) = nrmr g e := by
  obtain rfl : f = fun x : Fin 256 => g x.val := funext hf
  rfl

/-- The reference's first result. -/
theorem ref138 (r c : ℕ) (hr : r < 32768) (hc : c < 1024) :
    val_main_v138 (F := Ideal) x0 (ValueIdx.ix2 ⟨r, hr⟩ ⟨c, hc⟩) =
      retE (cdv (c / 256)) (colR x0 (r / 8192) (128 * (c / 256))) (colR x0 (r / 8192) (512 + 128 * (c / 256)))
        (colR x0 (r / 8192) (1024 + 256 * (c / 256))) (colR x0 (r / 8192) (2048 + 256 * (c / 256))) (fun _ _ => 0) (r % 8192) (c % 256) := by
  pointwise [val_main_v138, val_main_v137, val_main_v136, val_main_v135, val_main_v134, val_main_v4, val_main_v129, val_main_v133, val_main_v0, val_main_v128, val_main_v132, val_main_v120, val_main_v131, val_main_v118, val_main_v119, val_main_v127, val_main_v130, val_main_v117, val_main_cst_15, val_main_v125, val_main_v126, val_main_cst_18, val_main_cst_14, val_main_v124, val_main_cst_17, val_main_v123, val_main_cst_16, val_main_v122, val_main_v121]
  have u1 : r % 8192 / 128 = r / 128 % 64 := by omega
  have u2 : r % 8192 % 128 = r % 128 := by omega
  have u3 : r / 128 % 64 * 128 = 128 * (r / 128 % 64) := mul_comm _ _
  have e : ∀ x : Fin 256, val_main_v116 (F := Ideal) x0 (Idealize.ShloMosaic.ix5 (⟨r / 8192, by omega⟩ : Fin 4) (⟨r / 128 % 64, by omega⟩ : Fin 64) (⟨r % 128, by omega⟩ : Fin 128) (⟨c / 256, by omega⟩ : Fin 4) x) =
      rett (fun a => colR x0 (r / 8192) (128 * (c / 256)) (r % 8192 / 128 * 128 + a)) (fun a => colR x0 (r / 8192) (512 + 128 * (c / 256)) (r % 8192 / 128 * 128 + a))
        (fun a => colR x0 (r / 8192) (1024 + 256 * (c / 256)) (r % 8192 / 128 * 128 + a))
        (stB (cdv (c / 256)) (colR x0 (r / 8192) (512 + 128 * (c / 256))) (colR x0 (r / 8192) (1024 + 256 * (c / 256))) (fun _ _ => 0) (r % 8192 / 128)) (r % 8192 % 128) x.val :=
    fun x => by
     simp only [u1, u2, u3]
     exact ref116 x0 (r / 8192) (r / 128 % 64) (r % 128) (c / 256) x.val (by omega) (by omega) (by omega) (by omega) x.isLt
  unfold retE
  refine (mul_comm _ _).trans (congrArg₂ (· * ·) ?_ ?_)
  · have key := nrm_of (fun x => val_main_v116 (F := Ideal) x0 (Idealize.ShloMosaic.ix5 (⟨r / 8192, by omega⟩ : Fin 4) (⟨r / 128 % 64, by omega⟩ : Fin 64) (⟨r % 128, by omega⟩ : Fin 128) (⟨c / 256, by omega⟩ : Fin 4) x)) (rett (fun a => colR x0 (r / 8192) (128 * (c / 256)) (r % 8192 / 128 * 128 + a)) (fun a => colR x0 (r / 8192) (512 + 128 * (c / 256)) (r % 8192 / 128 * 128 + a))
        (fun a => colR x0 (r / 8192) (1024 + 256 * (c / 256)) (r % 8192 / 128 * 128 + a))
        (stB (cdv (c / 256)) (colR x0 (r / 8192) (512 + 128 * (c / 256))) (colR x0 (r / 8192) (1024 + 256 * (c / 256))) (fun _ _ => 0) (r % 8192 / 128)) (r % 8192 % 128)) e (c % 256) (by omega)
    beta_reduce at key
    refine Eq.trans ?_ key
    with_reducible rfl
  · exact at2_of (m := 32768) (n := 3072) x0 _ _ _ (by show r / 8192 * 8192 + r / 128 % 64 * 128 + r % 128 = 8192 * (r / 8192) + r % 8192; omega)
      (by show 2048 + (c / 256 * 256 + c % 256) = 2048 + 256 * (c / 256) + c % 256; omega)

end Cert.Proof.Mx
-- ==== Proof.MxClaim.lean ====
module

public import proofs.«01_k».proof.Defs
public import proofs.«01_k».proof.Proof.MxArray
public import proofs.«01_k».proof.Proof.MxRef
public import proofs.«01_k».proof.Proof.Gen.ReferenceIdeal.Run
public import proofs.«01_k».proof.Proof.Gen.ReferenceIdeal.Read

@[expose] public section

set_option maxRecDepth 16384
set_option maxHeartbeats 1000000

noncomputable section

namespace Cert.Proof.Mx

open Cert.KernelIdeal Cert.KernelIdeal.Gen Cert.KernelIdeal.Value
open Idealize.ShloMosaic Idealize.ShloMosaic.StableHlo Idealize.ShloMosaic.TcCoe Idealize.SL.Sem

variable (m : (ℓ : Loc nD τ sig) → Buf (Elt Ideal) ℓ)

/-- The retention the call leaves is the reference's. -/
theorem eq12 (c : Dev nD) : A12 m c = Cert.ReferenceIdeal.Read.val_main_v138 (F := Ideal) (m ((c : Thread nD τ).loc main_arg0)) := by
  funext i
  have h0 : (i 0).val < 32768 := (i 0).isLt
  have h1 : (i 1).val < 1024 := (i 1).isLt
  refine Eq.trans ?_ ((ref138 _ (i 0).val (i 1).val h0 h1).symm.trans (congrArg _ (ValueIdx.eq_ix2 i).symm))
  have e : ∀ b off, colS m c b off = colR (m ((c : Thread nD τ).loc main_arg0)) b off := fun b off => by
    unfold colS colR
    rw [V_main_arg0]
  unfold A12
  rw [e, e, e, e]

/-- The mixers' call and its reference, on extended reals, leave the same retention. -/
theorem algebraic : Cert.algebraic_KernelIdeal_ReferenceIdeal := by
  intro m g m' g' _ hag
  refine ⟨fun c => A12 m c, ?_, ?_⟩
  · refine (θ_run _ _ _).mono (fun r h c => ?_) (Cert.KernelIdeal.Value.run_blocks (F := Ideal) m g)
    obtain ⟨h12, _, h0⟩ := h c
    exact ⟨h12.trans (arr12 m c), h0⟩
  · refine (θ_run _ _ _).mono (fun r h c => ?_) (Cert.ReferenceIdeal.Value.run (F := Ideal) m' g')
    obtain ⟨h12, h0⟩ := h c
    refine ⟨?_, h0⟩
    refine (h12.trans (Cert.ReferenceIdeal.Read.val_main_v138_eq m' c)).trans ?_
    rw [(hag c).1]
    exact (eq12 m c).symm

end Cert.Proof.Mx
-- ==== Proof.OpBlock.lean ====
module

public import proofs.«01_k».proof.Proof.Gen.Kernel3Ideal.Skeleton
public import proofs.«01_k».proof.Proof.InPieces

@[expose] public section

set_option maxRecDepth 16384
set_option maxHeartbeats 1000000

noncomputable section

namespace Cert.Proof.Op

open Cert.Kernel3Ideal Cert.Kernel3Ideal.Gen
open Idealize.ShloMosaic Idealize.ShloMosaic.ValueIdx Idealize.ShloMosaic.TcCoe
open Cert.Proof.In (at2 at2_of at2_ld emb2 nrm nrm_congr)

/-! ## What one row of the output projection computes -/

/-- The two branches' outputs projected, weighted by their gates and added, at column `e`. -/
def mrg (ret attn ga gb : ℕ → EReal) (wr ws : ℕ → ℕ → EReal) (e : ℕ) : EReal :=
  ga e * (∑ k : Fin 1024, ret k * wr k e) + gb e * ∑ k : Fin 512, attn k * ws k e

/-- The row with the merged branches' projection added. -/
def xrow (x ret attn ga gb : ℕ → EReal) (wr ws wo : ℕ → ℕ → EReal) (c : ℕ) : EReal :=
  x c + ∑ k : Fin 1024, mrg ret attn ga gb wr ws k * wo k c

/-- The merged branches depend on the entries inside the arrays only. -/
theorem mrg_congr {ret ret' attn attn' ga ga' gb gb' : ℕ → EReal} {wr wr' ws ws' : ℕ → ℕ → EReal}
    (h1 : ∀ k < 1024, ret k = ret' k) (h2 : ∀ k < 512, attn k = attn' k) (h3 : ∀ k < 1024, ga k = ga' k)
    (h4 : ∀ k < 1024, gb k = gb' k) (h5 : ∀ k < 1024, ∀ e < 1024, wr k e = wr' k e)
    (h6 : ∀ k < 512, ∀ e < 1024, ws k e = ws' k e) (e : ℕ) (he : e < 1024) :
    mrg ret attn ga gb wr ws e = mrg ret' attn' ga' gb' wr' ws' e := by
  unfold mrg
  rw [h3 e he, h4 e he]
  refine congrArg₂ (fun a b => ga' e * a + gb' e * b) ?_ ?_
  · exact Finset.sum_congr rfl fun k _ => by rw [h1 k.val k.isLt, h5 k.val k.isLt e he]
  · exact Finset.sum_congr rfl fun k _ => by rw [h2 k.val k.isLt, h6 k.val k.isLt e he]

/-- So does the row. -/
theorem xrow_congr {x x' ret ret' attn attn' ga ga' gb gb' : ℕ → EReal} {wr wr' ws ws' wo wo' : ℕ → ℕ → EReal}
    (h0 : ∀ k < 1024, x k = x' k)
    (h1 : ∀ k < 1024, ret k = ret' k) (h2 : ∀ k < 512, attn k = attn' k) (h3 : ∀ k < 1024, ga k = ga' k)
    (h4 : ∀ k < 1024, gb k = gb' k) (h5 : ∀ k < 1024, ∀ e < 1024, wr k e = wr' k e)
    (h6 : ∀ k < 512, ∀ e < 1024, ws k e = ws' k e) (h7 : ∀ k < 1024, ∀ e < 1024, wo k e = wo' k e) (c : ℕ) (hc : c < 1024) :
    xrow x ret attn ga gb wr ws wo c = xrow x' ret' attn' ga' gb' wr' ws' wo' c := by
  unfold xrow
  rw [h0 c hc]
  refine congrArg (x' c + ·) (Finset.sum_congr rfl fun k _ => ?_)
  rw [mrg_congr h1 h2 h3 h4 h5 h6 k.val k.isLt, h7 k.val k.isLt c hc]

/-! ## The kernel's values at an index -/

/-- A product of 128 rows of the retention result with a square weight, at an index. -/
theorem pay5_apply (h : FVec Ideal S128x1024 .bf16) (w : Vec Ideal S1024x1024 .bf16) (y : S128x1024.Idx) :
    k0_pay5 (F := Ideal) h w y = ∑ k : Fin 1024, at2 h (y 0).val k.val * at2 w k.val (y 1).val := by
  unfold k0_pay5
  simp only [shapeCast_self]
  show FloatOps.matmul dot_S128x1024_S1024x1024_S128x1024_1_0_0_1_n_n none h w (constant S128x1024 .f32 0x00000000#32) y = _
  rw [Ideal.matmul_constant_zero_apply, ← Equiv.sum_comp (contrEquiv1 dot_S128x1024_S1024x1024_S128x1024_1_0_0_1_n_n 1024 rfl rfl).symm]
  refine Finset.sum_congr rfl fun k _ => ?_
  exact congrArg₂ (· * ·) (at2_of h _ (y 0).val k.val rfl (contrEquiv1_symm_val dot_S128x1024_S1024x1024_S128x1024_1_0_0_1_n_n 1024 rfl rfl k)) (at2_of w _ k.val (y 1).val (contrEquiv1_symm_val dot_S128x1024_S1024x1024_S128x1024_1_0_0_1_n_n 1024 rfl rfl k) rfl)

/-- A product of 128 rows of the attention result with its weight, at an index. -/
theorem pay13_apply (h : FVec Ideal S128x512 .bf16) (w : Vec Ideal S512x1024 .bf16) (y : S128x1024.Idx) :
    k0_pay13 (F := Ideal) h w y = ∑ k : Fin 512, at2 h (y 0).val k.val * at2 w k.val (y 1).val := by
  unfold k0_pay13
  simp only [shapeCast_self]
  show FloatOps.matmul dot_S128x512_S512x1024_S128x1024_1_0_0_1_n_n none h w (constant S128x1024 .f32 0x00000000#32) y = _
  rw [Ideal.matmul_constant_zero_apply, ← Equiv.sum_comp (contrEquiv1 dot_S128x512_S512x1024_S128x1024_1_0_0_1_n_n 512 rfl rfl).symm]
  refine Finset.sum_congr rfl fun k _ => ?_
  exact congrArg₂ (· * ·) (at2_of h _ (y 0).val k.val rfl (contrEquiv1_symm_val dot_S128x512_S512x1024_S128x1024_1_0_0_1_n_n 512 rfl rfl k)) (at2_of w _ k.val (y 1).val (contrEquiv1_symm_val dot_S128x512_S512x1024_S128x1024_1_0_0_1_n_n 512 rfl rfl k) rfl)

/-- The gated branches added, at an index. -/
theorem pay20_apply (a b : FVec Ideal S128x1024 .f32) (ga gb : Vec Ideal S128x1024 .bf16) (y : S128x1024.Idx) :
    k0_pay20 (F := Ideal) a b ga gb y = ga y * a y + gb y * b y := rfl

/-- The merged rows times the output weight, added to the rows, at an index. -/
theorem pay25_apply (h : FVec Ideal S128x1024 .bf16) (w : Vec Ideal S1024x1024 .bf16) (x : Vec Ideal S128x1024 .f32) (y : S128x1024.Idx) :
    k0_pay25 (F := Ideal) (k0_pay21 (F := Ideal) h w) x y = at2 x (y 0).val (y 1).val + ∑ k : Fin 1024, at2 h (y 0).val k.val * at2 w k.val (y 1).val := by
  rw [← at2_of x y _ _ rfl rfl, ← pay5_apply h w y]
  unfold k0_pay25 k0_pay21 k0_pay5
  simp only [shapeCast_self]
  rfl

/-- The normalised rows, at an index. -/
theorem pay36_apply (x : FVec Ideal S128x1024 .f32) (g : Vec Ideal S1x1024 .f32) (y : S128x1024.Idx) :
    k0_pay36 (F := Ideal) x g y = nrm (at2 x (y 0).val) (at2 g 0) (y 1).val := by
  unfold k0_pay36 nrm
  simp only [shapeCast_self]
  show (x y * broadcastTo (s := S128x1) S128x1024 _ _ y) * broadcastTo (s := S1x1024) S128x1024 g _ y = _
  rw [broadcastTo_apply (s := S128x1) _ _ y (ix2 (y 0) 0) (by
      intro a; match a with
      | ⟨0, _⟩ => rfl
      | ⟨1, _⟩ => rfl)]
  rw [broadcastTo_apply (s := S1x1024) _ _ y (ix2 0 (y 1)) (by
      intro a; match a with
      | ⟨0, _⟩ => rfl
      | ⟨1, _⟩ => rfl)]
  rw [at2_of g (ix2 0 (y 1)) 0 (y 1).val rfl rfl, at2_of x y _ _ rfl rfl]
  refine congrArg (fun z => at2 x (y 0).val (y 1).val * z * at2 g 0 (y 1).val) ?_
  show Ideal.rsqrt (Ideal.div (shapeCast S128x1 _ _ (ix2 (y 0) 0)) _ + _) = _
  refine congrArg (fun z => Ideal.rsqrt (Ideal.div z _ + _)) ?_
  refine (shapeCast_apply (s := S128) (t := S128x1) _ _ (ix2 (y 0) 0) (ix1 (y 0)) (by
    rw [Shape.rowMajor_val_one, Shape.rowMajor_val_two]; show (y 0).val = (y 0).val * 1 + 0; omega)).trans ?_
  refine (Ideal.multiReduction_add_single (s := S128x1024) (t := S128) (a := 1) _ _ reduces_S128x1024_S128 _ rfl _).trans ?_
  refine Finset.sum_congr rfl fun k _ => ?_
  rw [← at2_of x (reduces_S128x1024_S128.lift (ix1 (y 0)) k) (y 0).val k.val rfl rfl]
  rfl

/-! ## A quarter of a block of rows -/

section
variable (x0 : Vec Ideal S512x1024 .f32) (x1 : Vec Ideal S512x1024 .bf16) (x2 : Vec Ideal S512x512 .bf16)
  (x3 x4 : Vec Ideal S512x1024 .bf16) (x5 : Vec Ideal S1024x1024 .bf16) (x6 : Vec Ideal S512x1024 .bf16)
  (x7 : Vec Ideal S1024x1024 .bf16) (x8 : Vec Ideal S1x1024 .f32)

/-- The block of rows with the merged branches added, which a grid point writes. -/
def G11 (z : S512x1024.Idx) : EReal :=
  xrow (at2 x0 (z 0).val) (at2 x1 (z 0).val) (at2 x2 (z 0).val) (at2 x3 (z 0).val) (at2 x4 (z 0).val)
    (at2 x5) (at2 x6) (at2 x7) (z 1).val

/-- The block of normalised rows, which a grid point writes. -/
def G12 (z : S512x1024.Idx) : EReal :=
  nrm (xrow (at2 x0 (z 0).val) (at2 x1 (z 0).val) (at2 x2 (z 0).val) (at2 x3 (z 0).val) (at2 x4 (z 0).val)
    (at2 x5) (at2 x6) (at2 x7)) (at2 x8 0) (z 1).val

/-- The rows from `s` with the merged branches added, at row `r` and column `c`. -/
theorem x_quarter {s : ℕ} (i0 i1 i2 i3 i4 i5 i6 i7) (r c : ℕ) (hr : r < 128) (hc : c < 1024) :
    at2 (m := 128) (n := 1024) (k0_pay25 (F := Ideal) (k0_pay21 (F := Ideal) (k0_pay20 (F := Ideal)
        (k0_pay5 (F := Ideal) (View.ld x1 (Rect.unit ![s, 0] ![128, 1024] i1)) (View.ld x5 (Rect.unit ![0, 0] ![1024, 1024] i5)))
        (k0_pay13 (F := Ideal) (View.ld x2 (Rect.unit ![s, 0] ![128, 512] i2)) (View.ld x6 (Rect.unit ![0, 0] ![512, 1024] i6)))
        (View.ld x3 (Rect.unit ![s, 0] ![128, 1024] i3)) (View.ld x4 (Rect.unit ![s, 0] ![128, 1024] i4)))
      (View.ld x7 (Rect.unit ![0, 0] ![1024, 1024] i7))) (View.ld x0 (Rect.unit ![s, 0] ![128, 1024] i0))) r c
      = xrow (at2 x0 (s + r)) (at2 x1 (s + r)) (at2 x2 (s + r)) (at2 x3 (s + r)) (at2 x4 (s + r)) (at2 x5) (at2 x6) (at2 x7) c := by
  rw [← at2_of (m := 128) (n := 1024) _ (ix2 ⟨r, hr⟩ ⟨c, hc⟩) r c rfl rfl, pay25_apply]
  unfold xrow
  refine congrArg₂ (· + ·) ((at2_ld x0 s 0 i0 r c hr hc).trans (by rw [Nat.zero_add])) (Finset.sum_congr rfl fun k _ => ?_)
  refine congrArg₂ (· * ·) ?_ ((at2_ld x7 0 0 i7 k.val c k.isLt hc).trans (by rw [Nat.zero_add, Nat.zero_add]))
  rw [← at2_of (m := 128) (n := 1024) _ (ix2 ⟨r, hr⟩ k) r k.val rfl rfl]
  rw [pay20_apply, pay5_apply, pay13_apply]
  unfold mrg
  refine congrArg₂ (· + ·)
    (congrArg₂ (· * ·) ?_ (Finset.sum_congr rfl fun j _ => congrArg₂ (· * ·) ?_ ?_))
    (congrArg₂ (· * ·) ?_ (Finset.sum_congr rfl fun j _ => congrArg₂ (· * ·) ?_ ?_))
  · exact (at2_of (m := 128) (n := 1024) _ (ix2 ⟨r, hr⟩ k) r k.val rfl rfl).trans ((at2_ld x3 s 0 i3 r k.val hr k.isLt).trans (by rw [Nat.zero_add]))
  · exact (at2_ld x1 s 0 i1 r j.val hr j.isLt).trans (by rw [Nat.zero_add])
  · exact (at2_ld x5 0 0 i5 j.val k.val j.isLt k.isLt).trans (by rw [Nat.zero_add, Nat.zero_add])
  · exact (at2_of (m := 128) (n := 1024) _ (ix2 ⟨r, hr⟩ k) r k.val rfl rfl).trans ((at2_ld x4 s 0 i4 r k.val hr k.isLt).trans (by rw [Nat.zero_add]))
  · exact (at2_ld x2 s 0 i2 r j.val hr j.isLt).trans (by rw [Nat.zero_add])
  · exact (at2_ld x6 0 0 i6 j.val k.val j.isLt k.isLt).trans (by rw [Nat.zero_add, Nat.zero_add])

/-- A piece of the block of rows with the merged branches added. -/
theorem x_piece {s : ℕ} (i0 i1 i2 i3 i4 i5 i6 i7 ie) (y : S128x1024.Idx) :
    k0_pay25 (F := Ideal) (k0_pay21 (F := Ideal) (k0_pay20 (F := Ideal)
        (k0_pay5 (F := Ideal) (View.ld x1 (Rect.unit ![s, 0] ![128, 1024] i1)) (View.ld x5 (Rect.unit ![0, 0] ![1024, 1024] i5)))
        (k0_pay13 (F := Ideal) (View.ld x2 (Rect.unit ![s, 0] ![128, 512] i2)) (View.ld x6 (Rect.unit ![0, 0] ![512, 1024] i6)))
        (View.ld x3 (Rect.unit ![s, 0] ![128, 1024] i3)) (View.ld x4 (Rect.unit ![s, 0] ![128, 1024] i4)))
      (View.ld x7 (Rect.unit ![0, 0] ![1024, 1024] i7))) (View.ld x0 (Rect.unit ![s, 0] ![128, 1024] i0)) y
      = G11 x0 x1 x2 x3 x4 x5 x6 x7 ((Rect.unit (s := S512x1024) ![s, 0] ![128, 1024] ie).emb y) := by
  have hr : (y 0).val < 128 := (y 0).isLt
  have hc : (y 1).val < 1024 := (y 1).isLt
  obtain ⟨e0, e1⟩ := emb2 (m := 512) (n := 1024) s 0 ie y
  unfold G11
  rw [e0, e1, Nat.zero_add]
  exact (at2_of (m := 128) (n := 1024) _ y _ _ rfl rfl).trans (x_quarter x0 x1 x2 x3 x4 x5 x6 x7 i0 i1 i2 i3 i4 i5 i6 i7 _ _ hr hc)

/-- A piece of the block of normalised rows. -/
theorem n_piece {s : ℕ} (i0 i1 i2 i3 i4 i5 i6 i7 i8 ie) (y : S128x1024.Idx) :
    k0_pay36 (F := Ideal) (k0_pay25 (F := Ideal) (k0_pay21 (F := Ideal) (k0_pay20 (F := Ideal)
        (k0_pay5 (F := Ideal) (View.ld x1 (Rect.unit ![s, 0] ![128, 1024] i1)) (View.ld x5 (Rect.unit ![0, 0] ![1024, 1024] i5)))
        (k0_pay13 (F := Ideal) (View.ld x2 (Rect.unit ![s, 0] ![128, 512] i2)) (View.ld x6 (Rect.unit ![0, 0] ![512, 1024] i6)))
        (View.ld x3 (Rect.unit ![s, 0] ![128, 1024] i3)) (View.ld x4 (Rect.unit ![s, 0] ![128, 1024] i4)))
      (View.ld x7 (Rect.unit ![0, 0] ![1024, 1024] i7))) (View.ld x0 (Rect.unit ![s, 0] ![128, 1024] i0)))
      (View.ld x8 (Rect.unit ![0, 0] ![1, 1024] i8)) y
      = G12 x0 x1 x2 x3 x4 x5 x6 x7 x8 ((Rect.unit (s := S512x1024) ![s, 0] ![128, 1024] ie).emb y) := by
  have hr : (y 0).val < 128 := (y 0).isLt
  have hc : (y 1).val < 1024 := (y 1).isLt
  obtain ⟨e0, e1⟩ := emb2 (m := 512) (n := 1024) s 0 ie y
  unfold G12
  rw [pay36_apply, e0, e1, Nat.zero_add]
  refine nrm_congr (fun a ha => ?_) (fun a ha => ?_) (y 1).val hc
  · exact x_quarter x0 x1 x2 x3 x4 x5 x6 x7 i0 i1 i2 i3 i4 i5 i6 i7 _ _ hr ha
  · exact (at2_ld x8 0 0 i8 0 a (by decide) ha).trans (by rw [Nat.zero_add, Nat.zero_add])

end

end Cert.Proof.Op
-- ==== Proof.OpPieces.lean ====
module

public import proofs.«01_k».proof.Proof.OpBlock
public import proofs.«01_k».proof.Proof.Gen.Kernel3Ideal.Frame

@[expose] public section

set_option maxRecDepth 16384
set_option maxHeartbeats 2000000

noncomputable section

namespace Cert.Proof.Op

open Cert.Kernel3Ideal Cert.Kernel3Ideal.Gen
open Idealize.ShloMosaic Idealize.ShloMosaic.ValueIdx Idealize.ShloMosaic.TcCoe
open Cert.Proof.In (at2 at2_of at2_ld emb2 nrm nrm_congr)

/-! ## The stores of a grid point, one by one -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : cond0_0 i) (hc1 : cond0_1 i) (hc2 : ¬cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32)

/-- Every store of a point of case A into the block of rows with the merged branches added holds the block's values. -/
theorem pieces11_A : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10).1, ∀ x, p.2 x = G11 x0 x1 x2 x3 x4 x5 x6 x7 (p.1.emb x) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x

/-- Every store of a point of case A into the block of normalised rows holds the block's values. -/
theorem pieces12_A : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10).2.1, ∀ x, p.2 x = G12 x0 x1 x2 x3 x4 x5 x6 x7 x8 (p.1.emb x) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x

end

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : ¬cond0_0 i) (hc1 : ¬cond0_1 i) (hc2 : cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32) (xs0 : Vec Ideal S2x128x512 .f32)

/-- Every store of a point of case B into the block of rows with the merged branches added holds the block's values. -/
theorem pieces11_B : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0).1, ∀ x, p.2 x = G11 x0 x1 x2 x3 x4 x5 x6 x7 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x

/-- Every store of a point of case B into the block of normalised rows holds the block's values. -/
theorem pieces12_B : ∀ p ∈ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0).2.1, ∀ x, p.2 x = G12 x0 x1 x2 x3 x4 x5 x6 x7 x8 (p.1.emb x) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x

end

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : ¬cond0_0 i) (hc1 : cond0_1 i) (hc2 : ¬cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32) (xs0 : Vec Ideal S2x128x512 .f32)

/-- Every store of a point of case C into the block of rows with the merged branches added holds the block's values. -/
theorem pieces11_C : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0).1, ∀ x, p.2 x = G11 x0 x1 x2 x3 x4 x5 x6 x7 (p.1.emb x) := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x
  · exact fun x => x_piece x0 x1 x2 x3 x4 x5 x6 x7 _ _ _ _ _ _ _ _ _ x

/-- Every store of a point of case C into the block of normalised rows holds the block's values. -/
theorem pieces12_C : ∀ p ∈ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0).2.1, ∀ x, p.2 x = G12 x0 x1 x2 x3 x4 x5 x6 x7 x8 (p.1.emb x) := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, List.forall_mem_cons]
  refine ⟨?_, ?_, ?_, ?_, by intro p hp; exact absurd hp List.not_mem_nil⟩
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x
  · exact fun x => n_piece x0 x1 x2 x3 x4 x5 x6 x7 x8 _ _ _ _ _ _ _ _ _ _ x

end

end Cert.Proof.Op
-- ==== Proof.OpArray.lean ====
module

public import proofs.«01_k».proof.Proof.OpPieces
public import proofs.«01_k».proof.Proof.Gen.Kernel3Ideal.Value
public import Idealize.ShloMosaic.Lib.Pipeline.ValueKit.Point

@[expose] public section

set_option maxRecDepth 16384
set_option maxHeartbeats 1000000

noncomputable section

namespace Cert.Proof.Op

open Cert.Kernel3Ideal Cert.Kernel3Ideal.Gen
open Idealize.ShloMosaic Idealize.ShloMosaic.ValueIdx Idealize.ShloMosaic.TcCoe
open Cert.Proof.In (at2 at2_of at2_ld emb2 nrm nrm_congr)
open Idealize.ShloMosaic.Pipeline (Dat)

/-! ## The block a grid point leaves -/

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : cond0_0 i) (hc1 : cond0_1 i) (hc2 : ¬cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32)

/-- The block of rows with the merged branches added a point of case A leaves. -/
theorem out11_A (y : S512x1024.Idx) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 y = G11 x0 x1 x2 x3 x4 x5 x6 x7 y := by
  unfold out0_A_11
  rw [View.read_writes_junk_apply_eq_canon]
  exact View.canon_apply_of_pieces (G11 x0 x1 x2 x3 x4 x5 x6 x7) _ (pieces11_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 y)

/-- The block of normalised rows a point of case A leaves. -/
theorem out12_A (y : S512x1024.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 y = G12 x0 x1 x2 x3 x4 x5 x6 x7 x8 y := by
  unfold out0_A_12
  rw [View.read_writes_junk_apply_eq_canon]
  exact View.canon_apply_of_pieces (G12 x0 x1 x2 x3 x4 x5 x6 x7 x8) _ (pieces12_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 y)

end

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : ¬cond0_0 i) (hc1 : ¬cond0_1 i) (hc2 : cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32) (xs0 : Vec Ideal S2x128x512 .f32)

/-- The block of rows with the merged branches added a point of case B leaves. -/
theorem out11_B (y : S512x1024.Idx) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y = G11 x0 x1 x2 x3 x4 x5 x6 x7 y := by
  unfold out0_B_11
  rw [View.read_writes_junk_apply_eq_canon]
  exact View.canon_apply_of_pieces (G11 x0 x1 x2 x3 x4 x5 x6 x7) _ (pieces11_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0) y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y)

/-- The block of normalised rows a point of case B leaves. -/
theorem out12_B (y : S512x1024.Idx) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y = G12 x0 x1 x2 x3 x4 x5 x6 x7 x8 y := by
  unfold out0_B_12
  rw [View.read_writes_junk_apply_eq_canon]
  exact View.canon_apply_of_pieces (G12 x0 x1 x2 x3 x4 x5 x6 x7 x8) _ (pieces12_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0) y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y)

end

section
variable (c : Dev nD) (i : grid0.Coords)
  (arg1 : Memref sig .tc .vmem S512x1024 .f32) (harg1 : arg1.IsWhole)
  (arg2 : Memref sig .tc .vmem S512x1024 .bf16) (harg2 : arg2.IsWhole)
  (arg3 : Memref sig .tc .vmem S512x512 .bf16) (harg3 : arg3.IsWhole)
  (arg4 : Memref sig .tc .vmem S512x1024 .bf16) (harg4 : arg4.IsWhole)
  (arg5 : Memref sig .tc .vmem S512x1024 .bf16) (harg5 : arg5.IsWhole)
  (arg6 : Memref sig .tc .vmem S1024x1024 .bf16) (harg6 : arg6.IsWhole)
  (arg7 : Memref sig .tc .vmem S512x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S128x1024 .bf16) (harg10 : arg10.IsWhole)
  (arg11 : Memref sig .tc .vmem S128x128 .f32) (harg11 : arg11.IsWhole)
  (arg12 : Memref sig .tc .vmem S512x1024 .f32) (harg12 : arg12.IsWhole)
  (arg13 : Memref sig .tc .vmem S512x1024 .bf16) (harg13 : arg13.IsWhole)
  (arg14 : Memref sig .tc .vmem S512x128 .f32) (harg14 : arg14.IsWhole)
  (arg15 : Memref sig .tc .vmem S8x512 .f32) (harg15 : arg15.IsWhole)
  (arg16 : Memref sig .tc .vmem S8x128 .f32) (harg16 : arg16.IsWhole)
  (arg17 : Memref sig .tc .vmem S2x128x512 .f32) (harg17 : arg17.IsWhole)
  (hc0 : ¬cond0_0 i) (hc1 : cond0_1 i) (hc2 : ¬cond0_2 i)
variable (x0 : Vec Ideal S512x1024 .f32) (x1 : Vec Ideal S512x1024 .bf16) (x2 : Vec Ideal S512x512 .bf16) (x3 : Vec Ideal S512x1024 .bf16) (x4 : Vec Ideal S512x1024 .bf16) (x5 : Vec Ideal S1024x1024 .bf16) (x6 : Vec Ideal S512x1024 .bf16) (x7 : Vec Ideal S1024x1024 .bf16) (x8 : Vec Ideal S1x1024 .f32) (x9 : Vec Ideal S128x1024 .bf16) (x10 : Vec Ideal S128x128 .f32) (xs0 : Vec Ideal S2x128x512 .f32)

/-- The block of rows with the merged branches added a point of case C leaves. -/
theorem out11_C (y : S512x1024.Idx) : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y = G11 x0 x1 x2 x3 x4 x5 x6 x7 y := by
  unfold out0_C_11
  rw [View.read_writes_junk_apply_eq_canon]
  exact View.canon_apply_of_pieces (G11 x0 x1 x2 x3 x4 x5 x6 x7) _ (pieces11_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0) y (cover0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y)

/-- The block of normalised rows a point of case C leaves. -/
theorem out12_C (y : S512x1024.Idx) : out0_C_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y = G12 x0 x1 x2 x3 x4 x5 x6 x7 x8 y := by
  unfold out0_C_12
  rw [View.read_writes_junk_apply_eq_canon]
  exact View.canon_apply_of_pieces (G12 x0 x1 x2 x3 x4 x5 x6 x7 x8) _ (pieces12_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0) y (cover0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 xs0 y)

end

variable (m : (ℓ : Loc nD τ sig) → Buf (Elt Ideal) ℓ)

/-! ## The input blocks as rows of their arrays -/

/-- Where the blocks lie: point `t` takes row block `t`, the last point the last row block again. -/
theorem idx_op : ∀ t : Fin cfg0.N, win0_0.index t = ![min t.val 63, 0] ∧ win0_1.index t = ![min t.val 63, 0]
    ∧ win0_2.index t = ![min t.val 63, 0] ∧ win0_3.index t = ![min t.val 63, 0] ∧ win0_4.index t = ![min t.val 63, 1]
    ∧ win0_5.index t = ![0, 0] ∧ win0_6.index t = ![0, 0] ∧ win0_7.index t = ![0, 0] ∧ win0_8.index t = ![0, 0]
    ∧ win0_11.index t = ![min t.val 63, 0] ∧ win0_12.index t = ![min t.val 63, 0] :=
  (by decide +kernel : ∀ t : Fin grid0.N, _)

/-- Row `r` of point `t`'s block of input 0. -/
theorem blk0 (c : Dev nD) (t : Fin cfg0.N) (r : ℕ) (hr : r < 512) (k : ℕ) (hk : k < 1024) :
    at2 (m := 512) (n := 1024) (iblk m c 0 t) r k = at2 (m := 32768) (n := 1024) (V m c main_v0) (512 * min t.val 63 + r) (k) := by
  have ht : min t.val 63 < 64 := by omega
  have e := (idx_op t).1
  rw [← at2_of (m := 512) (n := 1024) (iblk m c 0 t) (ValueIdx.ix2 ⟨r, hr⟩ ⟨k, hk⟩) r k rfl rfl,
    ← at2_of (m := 32768) (n := 1024) (V m c main_v0) (ValueIdx.ix2 ⟨512 * min t.val 63 + r, by omega⟩ ⟨k, by omega⟩) (512 * min t.val 63 + r) (k) rfl rfl]
  blk_simp [iblk]
  refine congrArg (V m c main_v0) ?_
  blk_ext [e]

/-- Row `r` of point `t`'s block of input 1. -/
theorem blk1 (c : Dev nD) (t : Fin cfg0.N) (r : ℕ) (hr : r < 512) (k : ℕ) (hk : k < 1024) :
    at2 (m := 512) (n := 1024) (iblk m c 1 t) r k = at2 (m := 32768) (n := 1024) (V m c main_arg1) (512 * min t.val 63 + r) (k) := by
  have ht : min t.val 63 < 64 := by omega
  have e := (idx_op t).2.1
  rw [← at2_of (m := 512) (n := 1024) (iblk m c 1 t) (ValueIdx.ix2 ⟨r, hr⟩ ⟨k, hk⟩) r k rfl rfl,
    ← at2_of (m := 32768) (n := 1024) (V m c main_arg1) (ValueIdx.ix2 ⟨512 * min t.val 63 + r, by omega⟩ ⟨k, by omega⟩) (512 * min t.val 63 + r) (k) rfl rfl]
  blk_simp [iblk]
  refine congrArg (V m c main_arg1) ?_
  blk_ext [e]

/-- Row `r` of point `t`'s block of input 2. -/
theorem blk2 (c : Dev nD) (t : Fin cfg0.N) (r : ℕ) (hr : r < 512) (k : ℕ) (hk : k < 512) :
    at2 (m := 512) (n := 512) (iblk m c 2 t) r k = at2 (m := 32768) (n := 512) (V m c main_arg2) (512 * min t.val 63 + r) (k) := by
  have ht : min t.val 63 < 64 := by omega
  have e := (idx_op t).2.2.1
  rw [← at2_of (m := 512) (n := 512) (iblk m c 2 t) (ValueIdx.ix2 ⟨r, hr⟩ ⟨k, hk⟩) r k rfl rfl,
    ← at2_of (m := 32768) (n := 512) (V m c main_arg2) (ValueIdx.ix2 ⟨512 * min t.val 63 + r, by omega⟩ ⟨k, by omega⟩) (512 * min t.val 63 + r) (k) rfl rfl]
  blk_simp [iblk]
  refine congrArg (V m c main_arg2) ?_
  blk_ext [e]

/-- Row `r` of point `t`'s block of input 3. -/
theorem blk3 (c : Dev nD) (t : Fin cfg0.N) (r : ℕ) (hr : r < 512) (k : ℕ) (hk : k < 1024) :
    at2 (m := 512) (n := 1024) (iblk m c 3 t) r k = at2 (m := 32768) (n := 2048) (V m c main_arg3) (512 * min t.val 63 + r) (k) := by
  have ht : min t.val 63 < 64 := by omega
  have e := (idx_op t).2.2.2.1
  rw [← at2_of (m := 512) (n := 1024) (iblk m c 3 t) (ValueIdx.ix2 ⟨r, hr⟩ ⟨k, hk⟩) r k rfl rfl,
    ← at2_of (m := 32768) (n := 2048) (V m c main_arg3) (ValueIdx.ix2 ⟨512 * min t.val 63 + r, by omega⟩ ⟨k, by omega⟩) (512 * min t.val 63 + r) (k) rfl rfl]
  blk_simp [iblk]
  refine congrArg (V m c main_arg3) ?_
  blk_ext [e]

/-- Row `r` of point `t`'s block of input 4. -/
theorem blk4 (c : Dev nD) (t : Fin cfg0.N) (r : ℕ) (hr : r < 512) (k : ℕ) (hk : k < 1024) :
    at2 (m := 512) (n := 1024) (iblk m c 4 t) r k = at2 (m := 32768) (n := 2048) (V m c main_arg3) (512 * min t.val 63 + r) (1024 + k) := by
  have ht : min t.val 63 < 64 := by omega
  have e := (idx_op t).2.2.2.2.1
  rw [← at2_of (m := 512) (n := 1024) (iblk m c 4 t) (ValueIdx.ix2 ⟨r, hr⟩ ⟨k, hk⟩) r k rfl rfl,
    ← at2_of (m := 32768) (n := 2048) (V m c main_arg3) (ValueIdx.ix2 ⟨512 * min t.val 63 + r, by omega⟩ ⟨1024 + k, by omega⟩) (512 * min t.val 63 + r) (1024 + k) rfl rfl]
  blk_simp [iblk]
  refine congrArg (V m c main_arg3) ?_
  blk_ext [e]

/-- Row `r` of point `t`'s block of input 5. -/
theorem blk5 (c : Dev nD) (t : Fin cfg0.N) (r : ℕ) (hr : r < 1024) (k : ℕ) (hk : k < 1024) :
    at2 (m := 1024) (n := 1024) (iblk m c 5 t) r k = at2 (m := 1024) (n := 1024) (V m c main_v15) (r) (k) := by
  have ht : min t.val 63 < 64 := by omega
  have e := (idx_op t).2.2.2.2.2.1
  rw [← at2_of (m := 1024) (n := 1024) (iblk m c 5 t) (ValueIdx.ix2 ⟨r, hr⟩ ⟨k, hk⟩) r k rfl rfl,
    ← at2_of (m := 1024) (n := 1024) (V m c main_v15) (ValueIdx.ix2 ⟨r, by omega⟩ ⟨k, by omega⟩) (r) (k) rfl rfl]
  blk_simp [iblk]
  refine congrArg (V m c main_v15) ?_
  blk_ext [e]

/-- Row `r` of point `t`'s block of input 6. -/
theorem blk6 (c : Dev nD) (t : Fin cfg0.N) (r : ℕ) (hr : r < 512) (k : ℕ) (hk : k < 1024) :
    at2 (m := 512) (n := 1024) (iblk m c 6 t) r k = at2 (m := 512) (n := 1024) (V m c main_v17) (r) (k) := by
  have ht : min t.val 63 < 64 := by omega
  have e := (idx_op t).2.2.2.2.2.2.1
  rw [← at2_of (m := 512) (n := 1024) (iblk m c 6 t) (ValueIdx.ix2 ⟨r, hr⟩ ⟨k, hk⟩) r k rfl rfl,
    ← at2_of (m := 512) (n := 1024) (V m c main_v17) (ValueIdx.ix2 ⟨r, by omega⟩ ⟨k, by omega⟩) (r) (k) rfl rfl]
  blk_simp [iblk]
  refine congrArg (V m c main_v17) ?_
  blk_ext [e]

/-- Row `r` of point `t`'s block of input 7. -/
theorem blk7 (c : Dev nD) (t : Fin cfg0.N) (r : ℕ) (hr : r < 1024) (k : ℕ) (hk : k < 1024) :
    at2 (m := 1024) (n := 1024) (iblk m c 7 t) r k = at2 (m := 1024) (n := 1024) (V m c main_v19) (r) (k) := by
  have ht : min t.val 63 < 64 := by omega
  have e := (idx_op t).2.2.2.2.2.2.2.1
  rw [← at2_of (m := 1024) (n := 1024) (iblk m c 7 t) (ValueIdx.ix2 ⟨r, hr⟩ ⟨k, hk⟩) r k rfl rfl,
    ← at2_of (m := 1024) (n := 1024) (V m c main_v19) (ValueIdx.ix2 ⟨r, by omega⟩ ⟨k, by omega⟩) (r) (k) rfl rfl]
  blk_simp [iblk]
  refine congrArg (V m c main_v19) ?_
  blk_ext [e]

/-- Row `r` of point `t`'s block of input 8. -/
theorem blk8 (c : Dev nD) (t : Fin cfg0.N) (r : ℕ) (hr : r < 1) (k : ℕ) (hk : k < 1024) :
    at2 (m := 1) (n := 1024) (iblk m c 8 t) r k = at2 (m := 1) (n := 1024) (V m c main_v21) (r) (k) := by
  have ht : min t.val 63 < 64 := by omega
  have e := (idx_op t).2.2.2.2.2.2.2.2.1
  rw [← at2_of (m := 1) (n := 1024) (iblk m c 8 t) (ValueIdx.ix2 ⟨r, hr⟩ ⟨k, hk⟩) r k rfl rfl,
    ← at2_of (m := 1) (n := 1024) (V m c main_v21) (ValueIdx.ix2 ⟨r, by omega⟩ ⟨k, by omega⟩) (r) (k) rfl rfl]
  blk_simp [iblk]
  refine congrArg (V m c main_v21) ?_
  blk_ext [e]

/-! ## The output arrays -/

/-- Row `r` with the merged branches added, from the prepared arrays. -/
def xr (c : Dev nD) (r : ℕ) : ℕ → EReal :=
  xrow (at2 (m := 32768) (n := 1024) (V m c main_v0) r) (at2 (m := 32768) (n := 1024) (V m c main_arg1) r)
    (at2 (m := 32768) (n := 512) (V m c main_arg2) r) (at2 (m := 32768) (n := 2048) (V m c main_arg3) r)
    (fun k => at2 (m := 32768) (n := 2048) (V m c main_arg3) r (1024 + k))
    (at2 (m := 1024) (n := 1024) (V m c main_v15)) (at2 (m := 512) (n := 1024) (V m c main_v17))
    (at2 (m := 1024) (n := 1024) (V m c main_v19))

/-- The rows with the merged branches added, as the call leaves them. -/
def A11 (c : Dev nD) (i : S32768x1024.Idx) : EReal := xr m c (i 0).val (i 1).val

/-- The normalised rows, as the call leaves them. -/
def A12 (c : Dev nD) (i : S32768x1024.Idx) : EReal :=
  nrm (xr m c (i 0).val) (at2 (m := 1) (n := 1024) (V m c main_v21) 0) (i 1).val

/-- A row of the blocks is the row of the arrays. -/
theorem row_eq (c : Dev nD) (t : Fin cfg0.N) (r k : ℕ) (hr : r < 512) (hk : k < 1024) :
    xrow (at2 (m := 512) (n := 1024) (iblk m c 0 t) r) (at2 (m := 512) (n := 1024) (iblk m c 1 t) r)
      (at2 (m := 512) (n := 512) (iblk m c 2 t) r) (at2 (m := 512) (n := 1024) (iblk m c 3 t) r)
      (at2 (m := 512) (n := 1024) (iblk m c 4 t) r) (at2 (m := 1024) (n := 1024) (iblk m c 5 t))
      (at2 (m := 512) (n := 1024) (iblk m c 6 t)) (at2 (m := 1024) (n := 1024) (iblk m c 7 t)) k
      = xr m c (512 * min t.val 63 + r) k := by
  unfold xr
  exact xrow_congr (fun a ha => blk0 m c t r hr a ha) (fun a ha => blk1 m c t r hr a ha) (fun a ha => blk2 m c t r hr a ha)
    (fun a ha => blk3 m c t r hr a ha) (fun a ha => blk4 m c t r hr a ha) (fun a ha e he => blk5 m c t a ha e he)
    (fun a ha e he => blk6 m c t a ha e he) (fun a ha e he => blk7 m c t a ha e he) k hk

/-- The array of the rows with the merged branches added when the call ends. -/
theorem arr11 (c : Dev nD) : (dats m 0 c).arrAt 11 cfg0.N = A11 m c := by
  refine (dats m 0 c).arrAt_eq_of_covers 11 _ (by decide +kernel) fun t hf y => ?_
  have e := (idx_op t).2.2.2.2.2.2.2.2.2.1
  have h0 : (((cfg0.win 11).blk t).view.emb y 0 : ℕ) = 512 * min t.val 63 + (y 0).val := by
    blk_simp [e]
    omega
  have h1 : (((cfg0.win 11).blk t).view.emb y 1 : ℕ) = (y 1).val := by
    blk_simp [e]
  have hy0 : (y 0).val < 512 := (y 0).isLt
  have hy1 : (y 1).val < 1024 := (y 1).isLt
  have hG : G11 (iblk m c 0 t) (iblk m c 1 t) (iblk m c 2 t) (iblk m c 3 t) (iblk m c 4 t) (iblk m c 5 t) (iblk m c 6 t) (iblk m c 7 t) y = A11 m c (((cfg0.win 11).blk t).view.emb y) := by
    unfold G11 A11
    rw [h0, h1]
    exact row_eq m c t _ _ hy0 hy1
  have ht : t.val < 65 := lt_of_lt_of_eq t.isLt N_0
  by_cases hz : t.val % 65 = 0
  · refine (congrFun (Value.flushed11_A m c t hz (by omega) (by omega)) y).trans ?_
    exact (out11_A c _ _ _ _ _ _ _ _ _ _ _ _ _ _ _ _ _ _ _ _ _ _ _ _ _ _ _ _ _ _ _ _ _ _ _ _ _ _ _ _ _ _ _ _ _ _ _ _ _ y).trans hG
  · by_cases hp : t.val % 2 = 0
    · refine (congrFun (Value.flushed11_C m c t hz hp (by omega)) y).trans ?_
      exact (out11_C c _ _ _ _ _ _ _ _ _ _ _ _ _ _ _ _ _ _ _ _ _ _ _ _ _ _ _ _ _ _ _ _ _ _ _ _ _ _ _ _ _ _ _ _ _ _ _ _ _ _ y).trans hG
    · refine (congrFun (Value.flushed11_B m c t hz hp (by omega)) y).trans ?_
      exact (out11_B c _ _ _ _ _ _ _ _ _ _ _ _ _ _ _ _ _ _ _ _ _ _ _ _ _ _ _ _ _ _ _ _ _ _ _ _ _ _ _ _ _ _ _ _ _ _ _ _ _ _ y).trans hG

/-- The array of the normalised rows when the call ends. -/
theorem arr12 (c : Dev nD) : (dats m 0 c).arrAt 12 cfg0.N = A12 m c := by
  refine (dats m 0 c).arrAt_eq_of_covers 12 _ (by decide +kernel) fun t hf y => ?_
  have e := (idx_op t).2.2.2.2.2.2.2.2.2.2
  have h0 : (((cfg0.win 12).blk t).view.emb y 0 : ℕ) = 512 * min t.val 63 + (y 0).val := by
    blk_simp [e]
    omega
  have h1 : (((cfg0.win 12).blk t).view.emb y 1 : ℕ) = (y 1).val := by
    blk_simp [e]
  have hy0 : (y 0).val < 512 := (y 0).isLt
  have hy1 : (y 1).val < 1024 := (y 1).isLt
  have hG : G12 (iblk m c 0 t) (iblk m c 1 t) (iblk m c 2 t) (iblk m c 3 t) (iblk m c 4 t) (iblk m c 5 t) (iblk m c 6 t) (iblk m c 7 t) (iblk m c 8 t) y = A12 m c (((cfg0.win 12).blk t).view.emb y) := by
    unfold G12 A12
    rw [h0, h1]
    exact nrm_congr (fun a ha => row_eq m c t _ _ hy0 ha) (fun a ha => blk8 m c t 0 (by decide) a ha) _ hy1
  have ht : t.val < 65 := lt_of_lt_of_eq t.isLt N_0
  by_cases hz : t.val % 65 = 0
  · refine (congrFun (Value.flushed12_A m c t hz (by omega) (by omega)) y).trans ?_
    exact (out12_A c _ _ _ _ _ _ _ _ _ _ _ _ _ _ _ _ _ _ _ _ _ _ _ _ _ _ _ _ _ _ _ _ _ _ _ _ _ _ _ _ _ _ _ _ _ _ _ _ _ y).trans hG
  · by_cases hp : t.val % 2 = 0
    · refine (congrFun (Value.flushed12_C m c t hz hp (by omega)) y).trans ?_
      exact (out12_C c _ _ _ _ _ _ _ _ _ _ _ _ _ _ _ _ _ _ _ _ _ _ _ _ _ _ _ _ _ _ _ _ _ _ _ _ _ _ _ _ _ _ _ _ _ _ _ _ _ _ y).trans hG
    · refine (congrFun (Value.flushed12_B m c t hz hp (by omega)) y).trans ?_
      exact (out12_B c _ _ _ _ _ _ _ _ _ _ _ _ _ _ _ _ _ _ _ _ _ _ _ _ _ _ _ _ _ _ _ _ _ _ _ _ _ _ _ _ _ _ _ _ _ _ _ _ _ _ y).trans hG

end Cert.Proof.Op
-- ==== Proof.OpHost.lean ====
module

public import proofs.«01_k».proof.Proof.OpArray
public import proofs.«01_k».proof.Proof.InHost

@[expose] public section

set_option maxRecDepth 16384
set_option maxHeartbeats 1000000

noncomputable section

namespace Cert.Proof.Op

open Cert.Kernel3Ideal Cert.Kernel3Ideal.Gen
open Idealize.ShloMosaic Idealize.ShloMosaic.ValueIdx Idealize.ShloMosaic.TcCoe
open Cert.Proof.In (at2 at2_of at2_ld emb2 nrm nrm_congr at3 at3_of)

variable (m : (ℓ : Loc nD τ sig) → Buf (Elt Ideal) ℓ)

/-- The rows handed to the call are the rows of the input. -/
theorem host0 (c : Dev nD) (r k : ℕ) (hr : r < 32768) (hk : k < 1024) :
    at2 (m := 32768) (n := 1024) (V m c main_v0) r k
      = at3 (l := 4) (m := 8192) (n := 1024) (m ((c : Thread nD τ).loc main_arg0)) (r / 8192) (r % 8192) k := by
  rw [← at2_of (m := 32768) (n := 1024) (V m c main_v0) (ValueIdx.ix2 ⟨r, hr⟩ ⟨k, hk⟩) r k rfl rfl]
  entry_read
  pointwise
  exact at3_of (l := 4) (m := 8192) (n := 1024) _ _ _ _ _ rfl rfl rfl

/-- The retention branch's weight handed to the call. -/
theorem host15 (c : Dev nD) (r k : ℕ) (hr : r < 1024) (hk : k < 1024) :
    at2 (m := 1024) (n := 1024) (V m c main_v15) r k
      = at3 (l := 1) (m := 1024) (n := 1024) (m ((c : Thread nD τ).loc main_arg4)) 0 r k := by
  rw [← at2_of (m := 1024) (n := 1024) (V m c main_v15) (ValueIdx.ix2 ⟨r, hr⟩ ⟨k, hk⟩) r k rfl rfl]
  entry_read
  pointwise
  exact at3_of (l := 1) (m := 1024) (n := 1024) _ _ _ _ _ rfl rfl rfl

/-- The attention branch's weight handed to the call. -/
theorem host17 (c : Dev nD) (r k : ℕ) (hr : r < 512) (hk : k < 1024) :
    at2 (m := 512) (n := 1024) (V m c main_v17) r k
      = at3 (l := 1) (m := 512) (n := 1024) (m ((c : Thread nD τ).loc main_arg5)) 0 r k := by
  rw [← at2_of (m := 512) (n := 1024) (V m c main_v17) (ValueIdx.ix2 ⟨r, hr⟩ ⟨k, hk⟩) r k rfl rfl]
  entry_read
  pointwise
  exact at3_of (l := 1) (m := 512) (n := 1024) _ _ _ _ _ rfl rfl rfl

/-- The output weight handed to the call. -/
theorem host19 (c : Dev nD) (r k : ℕ) (hr : r < 1024) (hk : k < 1024) :
    at2 (m := 1024) (n := 1024) (V m c main_v19) r k
      = at3 (l := 1) (m := 1024) (n := 1024) (m ((c : Thread nD τ).loc main_arg6)) 0 r k := by
  rw [← at2_of (m := 1024) (n := 1024) (V m c main_v19) (ValueIdx.ix2 ⟨r, hr⟩ ⟨k, hk⟩) r k rfl rfl]
  entry_read
  pointwise
  exact at3_of (l := 1) (m := 1024) (n := 1024) _ _ _ _ _ rfl rfl rfl

/-- The gain handed to the call. -/
theorem host21 (c : Dev nD) (k : ℕ) (hk : k < 1024) :
    at2 (m := 1) (n := 1024) (V m c main_v21) 0 k
      = at2 (m := 1) (n := 1024) (m ((c : Thread nD τ).loc main_arg7)) 0 k := by
  rw [← at2_of (m := 1) (n := 1024) (V m c main_v21) (ValueIdx.ix2 ⟨0, by omega⟩ ⟨k, hk⟩) 0 k rfl rfl]
  entry_read
  pointwise
  exact at2_of (m := 1) (n := 1024) _ _ _ _ rfl rfl

end Cert.Proof.Op
-- ==== Proof.OpRef.lean ====
module

public import proofs.«01_k».proof.Proof.OpBlock
public import proofs.«01_k».proof.Proof.InHost
public import proofs.«01_k».proof.Proof.Gen.Reference3Ideal.Read
public import Idealize.ShloMosaic.Lib.IdealHost

@[expose] public section

set_option maxRecDepth 16384
set_option maxHeartbeats 2000000

noncomputable section

namespace Cert.Proof.Op

open Cert.Reference3Ideal Cert.Reference3Ideal.Read
open Idealize.ShloMosaic Idealize.ShloMosaic.TcCoe
open Cert.Proof.In (at2 at2_of nrm nrm_congr at3 at3_of)

variable (x0 : (⟨S4x8192x1024, .f32⟩ : BufTy).Contents (Elt Ideal)) (x1 : (⟨S32768x1024, .bf16⟩ : BufTy).Contents (Elt Ideal))
  (x2 : (⟨S32768x512, .bf16⟩ : BufTy).Contents (Elt Ideal)) (x3 : (⟨S32768x2048, .bf16⟩ : BufTy).Contents (Elt Ideal))
  (x4 : (⟨S1x1024x1024, .f32⟩ : BufTy).Contents (Elt Ideal)) (x5 : (⟨S1x512x1024, .f32⟩ : BufTy).Contents (Elt Ideal))
  (x6 : (⟨S1x1024x1024, .f32⟩ : BufTy).Contents (Elt Ideal)) (x7 : (⟨S1x1024, .f32⟩ : BufTy).Contents (Elt Ideal))

/-- Position `s` of sequence `b` with the merged branches added, from the arguments. -/
def xa (b s : ℕ) : ℕ → EReal :=
  xrow (at3 (l := 4) (m := 8192) (n := 1024) x0 b s) (at2 (m := 32768) (n := 1024) x1 (b * 8192 + s))
    (at2 (m := 32768) (n := 512) x2 (b * 8192 + s)) (at2 (m := 32768) (n := 2048) x3 (b * 8192 + s))
    (fun k => at2 (m := 32768) (n := 2048) x3 (b * 8192 + s) (1024 + k))
    (at3 (l := 1) (m := 1024) (n := 1024) x4 0) (at3 (l := 1) (m := 512) (n := 1024) x5 0)
    (at3 (l := 1) (m := 1024) (n := 1024) x6 0)

/-! ## The reference's stages -/

/-- The reference's merged branches. -/
theorem ref14 (b s c : ℕ) (hb : b < 4) (hs : s < 8192) (hc : c < 1024) :
    val_main_v14 (F := Ideal) x1 x2 x3 x4 x5 (Idealize.ShloMosaic.ix3 ⟨b, hb⟩ ⟨s, hs⟩ ⟨c, hc⟩)
      = mrg (at2 (m := 32768) (n := 1024) x1 (b * 8192 + s))
    (at2 (m := 32768) (n := 512) x2 (b * 8192 + s)) (at2 (m := 32768) (n := 2048) x3 (b * 8192 + s))
    (fun k => at2 (m := 32768) (n := 2048) x3 (b * 8192 + s) (1024 + k))
    (at3 (l := 1) (m := 1024) (n := 1024) x4 0) (at3 (l := 1) (m := 512) (n := 1024) x5 0) c := by
  pointwise [val_main_v14, val_main_v13, val_main_v12, val_main_v11, val_main_v10, val_main_v9, val_main_v8, val_main_v7, val_main_v6, val_main_v5, val_main_v4, val_main_v3, val_main_v2, val_main_v1, val_main_v0]
  unfold mrg
  exact congrArg₂ (· + ·)
    (congrArg₂ (· * ·) (at2_of (m := 32768) (n := 2048) x3 _ _ _ rfl rfl) (Finset.sum_congr rfl fun j _ => congrArg₂ (· * ·)
      (at2_of (m := 32768) (n := 1024) x1 _ _ _ rfl rfl) (at3_of (l := 1) (m := 1024) (n := 1024) x4 _ _ _ _ rfl rfl rfl)))
    (congrArg₂ (· * ·) (at2_of (m := 32768) (n := 2048) x3 _ _ _ rfl rfl) (Finset.sum_congr rfl fun j _ => congrArg₂ (· * ·)
      (at2_of (m := 32768) (n := 512) x2 _ _ _ rfl rfl) (at3_of (l := 1) (m := 512) (n := 1024) x5 _ _ _ _ rfl rfl rfl)))

attribute [local irreducible] val_main_v14

/-- The reference's rows with the merged branches added. -/
theorem ref17 (b s c : ℕ) (hb : b < 4) (hs : s < 8192) (hc : c < 1024) :
    val_main_v17 (F := Ideal) x0 x1 x2 x3 x4 x5 x6 (Idealize.ShloMosaic.ix3 ⟨b, hb⟩ ⟨s, hs⟩ ⟨c, hc⟩)
      = xa x0 x1 x2 x3 x4 x5 x6 b s c := by
  pointwise [val_main_v17, val_main_v16, val_main_v15]
  unfold xa xrow
  exact congrArg₂ (· + ·) (at3_of (l := 4) (m := 8192) (n := 1024) x0 _ _ _ _ rfl rfl rfl)
    (Finset.sum_congr rfl fun j _ => congrArg₂ (· * ·) (ref14 x1 x2 x3 x4 x5 b s j.val hb hs j.isLt)
      (at3_of (l := 1) (m := 1024) (n := 1024) x6 _ _ _ _ rfl rfl rfl))

attribute [local irreducible] val_main_v17

/-- The reference's first result, at row `r` and column `c`. -/
theorem ref32 (r c : ℕ) (hr : r < 32768) (hc : c < 1024) :
    val_main_v32 (F := Ideal) x0 x1 x2 x3 x4 x5 x6 (ValueIdx.ix2 ⟨r, hr⟩ ⟨c, hc⟩)
      = xa x0 x1 x2 x3 x4 x5 x6 (r / 8192) (r % 8192) c := by
  pointwise [val_main_v32]
  exact ref17 x0 x1 x2 x3 x4 x5 x6 (r / 8192) (r % 8192) c (by omega) (by omega) hc

/-- The reference's second result, at row `r` and column `c`. -/
theorem ref34 (r c : ℕ) (hr : r < 32768) (hc : c < 1024) :
    val_main_v34 (F := Ideal) x0 x1 x2 x3 x4 x5 x6 x7 (ValueIdx.ix2 ⟨r, hr⟩ ⟨c, hc⟩)
      = nrm (xa x0 x1 x2 x3 x4 x5 x6 (r / 8192) (r % 8192)) (at2 (m := 1) (n := 1024) x7 0) c := by
  pointwise [val_main_v34, val_main_v33, val_main_v31, val_main_v30, val_main_v29, val_main_v28, val_main_v27, val_main_v26, val_main_v25, val_main_v24, val_main_v23, val_main_v22, val_main_v21, val_main_v20, val_main_v19, val_main_v18, val_main_cst, val_main_cst_0, val_main_cst_1]
  unfold nrm
  have e : ∀ k : Fin 1024, val_main_v17 (F := Ideal) x0 x1 x2 x3 x4 x5 x6
      (Idealize.ShloMosaic.ix3 ⟨r / 8192, by omega⟩ ⟨r % 8192, by omega⟩ k) = xa x0 x1 x2 x3 x4 x5 x6 (r / 8192) (r % 8192) k.val :=
    fun k => ref17 x0 x1 x2 x3 x4 x5 x6 (r / 8192) (r % 8192) k.val (by omega) (by omega) k.isLt
  exact congrArg₂ (· * ·) (congrArg₂ (· * ·) (e ⟨c, hc⟩)
    (congrArg (fun z => Ideal.rsqrt (Ideal.div z (Ideal.ofBits FTy.f32 0x44800000#32) + Ideal.ofBits FTy.f32 0x358637BD#32))
      (Finset.sum_congr rfl fun k _ => congrArg₂ (· * ·) (e k) (e k))))
    (at2_of (m := 1) (n := 1024) x7 _ _ _ rfl rfl)

end Cert.Proof.Op
-- ==== Proof.OpClaim.lean ====
module

public import proofs.«01_k».proof.Defs
public import proofs.«01_k».proof.Proof.OpHost
public import proofs.«01_k».proof.Proof.OpRef
public import proofs.«01_k».proof.Proof.Gen.Reference3Ideal.Run

@[expose] public section

set_option maxRecDepth 16384
set_option maxHeartbeats 1000000

noncomputable section

namespace Cert.Proof.Op

open Cert.Kernel3Ideal Cert.Kernel3Ideal.Gen
open Idealize.ShloMosaic Idealize.ShloMosaic.StableHlo Idealize.ShloMosaic.TcCoe Idealize.SL.Sem
open Cert.Proof.In (at2 nrm nrm_congr)

variable (m : (ℓ : Loc nD τ sig) → Buf (Elt Ideal) ℓ)

/-! ## The kernel's results are the reference's -/

/-- A row from the prepared arrays is the row from the arguments. -/
theorem xr_eq (c : Dev nD) (r k : ℕ) (hr : r < 32768) (hk : k < 1024) :
    xr m c r k = xa (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (r / 8192) (r % 8192) k := by
  unfold xr xa
  have e : r / 8192 * 8192 + r % 8192 = r := by omega
  rw [e, V_main_arg1, V_main_arg2, V_main_arg3]
  exact xrow_congr (fun a ha => host0 m c r a hr ha) (fun _ _ => rfl) (fun _ _ => rfl) (fun _ _ => rfl) (fun _ _ => rfl)
    (fun a ha e he => host15 m c a e ha he) (fun a ha e he => host17 m c a e ha he) (fun a ha e he => host19 m c a e ha he) k hk

/-- The rows with the merged branches added, as the call leaves them, are the reference's. -/
theorem eq11 (c : Dev nD) : A11 m c = Cert.Reference3Ideal.Read.val_main_v32 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  have h0 : (i 0).val < 32768 := (i 0).isLt
  have h1 : (i 1).val < 1024 := (i 1).isLt
  refine Eq.trans ?_ ((ref32 _ _ _ _ _ _ _ (i 0).val (i 1).val h0 h1).symm.trans (congrArg _ (ValueIdx.eq_ix2 i).symm))
  exact xr_eq m c (i 0).val (i 1).val h0 h1

/-- The normalised rows the call leaves are the reference's. -/
theorem eq12 (c : Dev nD) : A12 m c = Cert.Reference3Ideal.Read.val_main_v34 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  have h0 : (i 0).val < 32768 := (i 0).isLt
  have h1 : (i 1).val < 1024 := (i 1).isLt
  refine Eq.trans ?_ ((ref34 _ _ _ _ _ _ _ _ (i 0).val (i 1).val h0 h1).symm.trans (congrArg _ (ValueIdx.eq_ix2 i).symm))
  exact nrm_congr (fun a ha => xr_eq m c (i 0).val a h0 ha) (fun a ha => host21 m c a ha) (i 1).val h1

/-- The output projection's call and its reference, on extended reals, leave the same two arrays. -/
theorem algebraic : Cert.algebraic_Kernel3Ideal_Reference3Ideal := by
  intro m g m' g' _ hag
  refine ⟨fun c => A11 m c, fun c => A12 m c, ?_, ?_⟩
  · refine (θ_run _ _ _).mono (fun r h c => ?_) (Cert.Kernel3Ideal.Value.run_blocks (F := Ideal) m g)
    obtain ⟨h11, h12, _, _, _, h⟩ := h c
    exact ⟨h11.trans (arr11 m c), h12.trans (arr12 m c), h⟩
  · refine (θ_run _ _ _).mono (fun r h c => ?_) (Cert.Reference3Ideal.Value.run (F := Ideal) m' g')
    obtain ⟨h11, h12, h⟩ := h c
    obtain ⟨a0, a1, a2, a3, a4, a5, a6, a7, _⟩ := hag c
    refine ⟨?_, ?_, h⟩
    · refine (h11.trans (Cert.Reference3Ideal.Read.val_main_v32_eq _ _ _ _ _ _ _)).trans ?_
      rw [a0, a1, a2, a3, a4, a5, a6]
      exact (eq11 m c).symm
    · refine (h12.trans (Cert.Reference3Ideal.Read.val_main_v34_eq m' c)).trans ?_
      rw [a0, a1, a2, a3, a4, a5, a6, a7]
      exact (eq12 m c).symm

/-- The reference of the output projection runs and leaves its arguments unchanged. -/
theorem frame_ri : Cert.quiescent_Reference3Ideal := fun m g _ =>
  (θ_run _ _ _).mono (fun r h => ⟨fun c => (h c).2.2,
    sem_eq_zero_of_no_sems (by decide) r.2⟩) (Cert.Reference3Ideal.Value.run (F := _) m g)

/-- The output projection's call names no constant. -/
theorem preserves : Cert.preserves_Kernel3_Kernel3Ideal := trivial

end Cert.Proof.Op
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.InClaim
public import proofs.«01_k».proof.Proof.MxClaim
public import proofs.«01_k».proof.Proof.OpClaim
public import Idealize.ShloMosaic.Adequacy
public import Idealize.ShloMosaic.Init

@[expose] public section

noncomputable section

namespace Cert.Proof

open Idealize.ShloMosaic Idealize.ShloMosaic.StableHlo Idealize.SL.Sem

/-- The reference of the mixers runs and leaves its arguments unchanged. -/
theorem frame_ri : Cert.quiescent_ReferenceIdeal := fun m g _ =>
  (θ_run _ _ _).mono (fun r h => ⟨fun c => (h c).2,
    sem_eq_zero_of_no_sems (by decide) r.2⟩) (Cert.ReferenceIdeal.Value.run (F := _) m g)

/-- The named constants of the mixers' call are the constants it is printed with. -/
theorem preserves : Cert.preserves_Kernel_KernelIdeal :=
  ⟨IdealRules.named_const.statement Cert.KernelIdeal.κ "scale_log2e" .f32 0x3E38AA3B#32 _ rfl,
   IdealRules.named_const.statement Cert.KernelIdeal.κ "cd0" .f32 0x3C8CC36A#32 _ rfl,
   IdealRules.named_const.statement Cert.KernelIdeal.κ "log2e" .f32 0x3FB8AA3B#32 _ rfl,
   IdealRules.named_const.statement Cert.KernelIdeal.κ "mask" .f32 0xF149F2CA#32 _ rfl,
   IdealRules.named_const.statement Cert.KernelIdeal.κ "cd1" .f32 0x3E08698E#32 _ rfl,
   IdealRules.named_const.statement Cert.KernelIdeal.κ "cd2" .f32 0x3EBB9DB9#32 _ rfl,
   IdealRules.named_const.statement Cert.KernelIdeal.κ "cd3" .f32 0x3F1B1EB1#32 _ rfl⟩

/-- All claims of the certificate. -/
theorem claim : Cert.Claim :=
  ⟨Cert.Kernel.Gen.facts, Cert.KernelIdeal.Gen.facts, Cert.ReferenceIdeal.Gen.facts, Cert.Kernel2.Gen.facts,
   Cert.Kernel2Ideal.Gen.facts, Cert.Reference2Ideal.Gen.facts,
   Cert.Kernel3.Gen.facts, Cert.Kernel3Ideal.Gen.facts, Cert.Reference3Ideal.Gen.facts,
   fun m ρ _ => Cert.Kernel.Gen.frame m ρ, fun m ρ _ => Cert.KernelIdeal.Gen.frame m ρ, frame_ri,
   fun m ρ _ => Cert.Kernel2.Gen.frame m ρ, fun m ρ _ => Cert.Kernel2Ideal.Gen.frame m ρ, In.frame_ri,
   fun m ρ _ => Cert.Kernel3.Gen.frame m ρ, fun m ρ _ => Cert.Kernel3Ideal.Gen.frame m ρ, Op.frame_ri,
   preserves, Mx.algebraic, In.preserves, In.algebraic, Op.preserves, Op.algebraic⟩

end Cert.Proof
